-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S8x2048x32 : Shape := ⟨3, ![8, 2048, 32]⟩
abbrev S8x2048 : Shape := ⟨2, ![8, 2048]⟩
abbrev S32x32 : Shape := ⟨2, ![32, 32]⟩
abbrev S32 : Shape := ⟨1, ![32]⟩
abbrev S_ : Shape := ⟨0, ![]⟩

class Facts : Prop where
  bcast_S_S8x2048x32 : S_.BroadcastsInDim S8x2048x32 (![] : Fin 0 → Fin S8x2048x32.rank)
  reducesTo_S8x2048x32_S_d0_1_2 : S8x2048x32.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_arg5 : FVec F S32 .f32) (main_v14 : IVec S_ 1) (main_v15 : FVec F S32x32 .f32) (main_cst_5 : FVec F S_ .f32) : IVec S_ 1 :=
  let main_v16 : FVec F S32x32 .f32 := broadcastInDim S32x32 ![] bcast_S_S32x32 main_cst_5
  let main_v17 : IVec S32x32 1 := cmpf .olt main_v15 main_v16
  let main_c_6 : IVec S_ 1 := constantI S_ 1 1#1
  let main_v18 : IVec S_ 1 := (fun x v => Host.reduce IntOp.andi x v reducesTo_S32x32_S_d0_1 h_S_) main_v17 main_c_6
  let main_v19 : IVec S_ 1 := andi main_v14 main_v18
  let main_v20 : FVec F S32 .f32 := Host.absf main_arg4
  let main_cst_7 : FVec F S_ .f32 := constant S_ .f32 0x7F800000#32
  let main_v21 : FVec F S32 .f32 := broadcastInDim S32 ![] bcast_S_S32 main_cst_7
  let main_v22 : IVec S32 1 := cmpf .olt main_v20 main_v21
  let main_c_8 : IVec S_ 1 := constantI S_ 1 1#1
  let main_v23 : IVec S_ 1 := (fun x v => Host.reduce IntOp.andi x v reducesTo_S32_S_d0 h_S_) main_v22 main_c_8
  let main_v24 : IVec S_ 1 := andi main_v19 main_v23
  let main_v25 : FVec F S32 .f32 := Host.absf main_arg5
  let main_cst_9 : FVec F S_ .f32 := constant S_ .f32 0x7F800000#32
  let main_v26 : FVec F S32 .f32 := broadcastInDim S32 ![] bcast_S_S32 main_cst_9
  let main_v27 : IVec S32 1 := cmpf .olt main_v25 main_v26
  let main_c_10 : IVec S_ 1 := constantI S_ 1 1#1
  let main_v28 : IVec S_ 1 := (fun x v => Host.reduce IntOp.andi x v reducesTo_S32_S_d0 h_S_) main_v27 main_c_10
  let main_v29 : IVec S_ 1 := andi main_v24 main_v28
  main_v29

def fn {F : FTy → Type} [FloatOps F] (main_arg0 : FVec F S8x2048x32 .f32) (main_arg1 : IVec S8x2048 32) (main_arg2 : IVec S8x2048 32) (main_arg3 : FVec F S32x32 .f32) (main_arg4 : FVec F S32 .f32) (main_arg5 : FVec F S32 .f32) : IVec S_ 1 :=
  let main_v0 : FVec F S8x2048x32 .f32 := Host.absf main_arg0
  let main_cst : FVec F S_ .f32 := constant S_ .f32 0x7F800000#32
  let main_v1 : FVec F S8x2048x32 .f32 := broadcastInDim S8x2048x32 ![] bcast_S_S8x2048x32 main_cst
  let main_v2 : IVec S8x2048x32 1 := cmpf .olt main_v0 main_v1
  let main_c : IVec S_ 1 := constantI S_ 1 1#1
  let main_v3 : IVec S_ 1 := (fun x v => Host.reduce IntOp.andi x v reducesTo_S8x2048x32_S_d0_1_2 h_S_) main_v2 main_c
  let main_c_0 : IVec S_ 32 := constantI S_ 32 0#32
  let main_v4 : IVec S8x2048 32 := broadcastInDim S8x2048 ![] bcast_S_S8x2048 main_c_0
  let main_v5 : IVec S8x2048 1 := cmpi .sge main_arg1 main_v4
  let main_c_1 : IVec S_ 32 := constantI S_ 32 32#32
  let main_v6 : IVec S8x2048 32 := broadcastInDim S8x2048 ![] bcast_S_S8x2048 main_c_1
  let main_v7 : IVec S8x2048 1 := cmpi .slt main_arg1 main_v6
  let main_v8 : IVec S8x2048 1 := andi main_v5 main_v7
  let main_c_2 : IVec S_ 1 := constantI S_ 1 1#1
  let main_v9 : IVec S_ 1 := (fun x v => Host.reduce IntOp.andi x v reducesTo_S8x2048_S_d0_1 h_S_) main_v8 main_c_2
  let main_v10 : IVec S_ 1 := andi main_v3 main_v9
  let main_c_3 : IVec S_ 32 := constantI S_ 32 1#32
  let main_v11 : IVec S8x2048 32 := broadcastInDim S8x2048 ![] bcast_S_S8x2048 main_c_3
  let main_v12 : IVec S8x2048 1 := cmpi .eq main_arg2 main_v11
  let main_c_4 : IVec S_ 1 := constantI S_ 1 1#1
  let main_v13 : IVec S_ 1 := (fun x v => Host.reduce IntOp.andi x v reducesTo_S8x2048_S_d0_1 h_S_) main_v12 main_c_4
  let main_v14 : IVec S_ 1 := andi main_v10 main_v13
  let main_v15 : FVec F S32x32 .f32 := Host.absf main_arg3
  let main_cst_5 : FVec F S_ .f32 := constant S_ .f32 0x7F800000#32
  fn_part1 (F := F) main_arg4 main_arg5 main_v14 main_v15 main_cst_5
-- ==== Kernel.lean ====
abbrev S8x2048x32 : Shape := ⟨3, ![8, 2048, 32]⟩
abbrev S8x2048 : Shape := ⟨2, ![8, 2048]⟩
abbrev S32x32 : Shape := ⟨2, ![32, 32]⟩
abbrev S32 : Shape := ⟨1, ![32]⟩
abbrev S2048x8x32 : Shape := ⟨3, ![2048, 8, 32]⟩
abbrev S2048x2x128 : Shape := ⟨3, ![2048, 2, 128]⟩
abbrev S2048x8 : Shape := ⟨2, ![2048, 8]⟩
abbrev S2048x1x128 : Shape := ⟨3, ![2048, 1, 128]⟩
abbrev S2048x128 : Shape := ⟨2, ![2048, 128]⟩
abbrev S1x32 : Shape := ⟨2, ![1, 32]⟩
abbrev S1x1 : Shape := ⟨2, ![1, 1]⟩
abbrev S127x32x128 : Shape := ⟨3, ![127, 32, 128]⟩
abbrev S1x32x32 : Shape := ⟨3, ![1, 32, 32]⟩
abbrev S1 : Shape := ⟨1, ![1]⟩
abbrev S1x1x1 : Shape := ⟨3, ![1, 1, 1]⟩
abbrev S32x128 : Shape := ⟨2, ![32, 128]⟩
abbrev S128x128 : Shape := ⟨2, ![128, 128]⟩
abbrev S128x32 : Shape := ⟨2, ![128, 32]⟩
abbrev S8x32 : Shape := ⟨2, ![8, 32]⟩
abbrev S15x8x32 : Shape := ⟨3, ![15, 8, 32]⟩
abbrev S1x8x32 : Shape := ⟨3, ![1, 8, 32]⟩
abbrev S8 : Shape := ⟨1, ![8]⟩
abbrev S8x1 : Shape := ⟨2, ![8, 1]⟩
abbrev S1x8 : Shape := ⟨2, ![1, 8]⟩
abbrev S8x128 : Shape := ⟨2, ![8, 128]⟩
abbrev S127x128 : Shape := ⟨2, ![127, 128]⟩
abbrev S1x128 : Shape := ⟨2, ![1, 128]⟩
abbrev S127x8x32 : Shape := ⟨3, ![127, 8, 32]⟩
abbrev S127x8 : Shape := ⟨2, ![127, 8]⟩
abbrev S127x1x128 : Shape := ⟨3, ![127, 1, 128]⟩
abbrev S1x127x128 : Shape := ⟨3, ![1, 127, 128]⟩
abbrev S126x128 : Shape := ⟨2, ![126, 128]⟩
abbrev S1x126x128 : Shape := ⟨3, ![1, 126, 128]⟩
abbrev S1x1x128 : Shape := ⟨3, ![1, 1, 128]⟩
abbrev S15x1x1 : Shape := ⟨3, ![15, 1, 1]⟩
abbrev S1x1x32 : Shape := ⟨3, ![1, 1, 32]⟩
abbrev S15x1x32 : Shape := ⟨3, ![15, 1, 32]⟩
abbrev S15x8 : Shape := ⟨2, ![15, 8]⟩
abbrev S15x8x1 : Shape := ⟨3, ![15, 8, 1]⟩
abbrev S1x15x8x32 : Shape := ⟨4, ![1, 15, 8, 32]⟩
abbrev S1x1x1x1 : Shape := ⟨4, ![1, 1, 1, 1]⟩
abbrev S120x32 : Shape := ⟨2, ![120, 32]⟩
abbrev S14x8x32 : Shape := ⟨3, ![14, 8, 32]⟩
abbrev S1x14x8x32 : Shape := ⟨4, ![1, 14, 8, 32]⟩
abbrev S1x32x128 : Shape := ⟨3, ![1, 32, 128]⟩
abbrev S32x1x128 : Shape := ⟨3, ![32, 1, 128]⟩
abbrev S32x32x128 : Shape := ⟨3, ![32, 32, 128]⟩
abbrev S1024x128 : Shape := ⟨2, ![1024, 128]⟩
abbrev S4x32 : Shape := ⟨2, ![4, 32]⟩
abbrev S4x128 : Shape := ⟨2, ![4, 128]⟩
abbrev S16x2x128 : Shape := ⟨3, ![16, 2, 128]⟩
abbrev S2x128 : Shape := ⟨2, ![2, 128]⟩
abbrev S1x8x1 : Shape := ⟨3, ![1, 8, 1]⟩

abbrev nBuf : Space → Nat
  | .hbm => 16
  | .vmem => 9
  | .smem => 0
  | _ => 0

abbrev bufTy : (tb : Table) → Fin (tcTables nBuf tb) → BufTy
  | .hbm, ⟨0, _⟩ => ⟨S8x2048x32, .f32⟩
  | .hbm, ⟨1, _⟩ => ⟨S8x2048, .i32⟩
  | .hbm, ⟨2, _⟩ => ⟨S8x2048, .i32⟩
  | .hbm, ⟨3, _⟩ => ⟨S32x32, .f32⟩
  | .hbm, ⟨4, _⟩ => ⟨S32, .f32⟩
  | .hbm, ⟨5, _⟩ => ⟨S32, .f32⟩
  | .hbm, ⟨6, _⟩ => ⟨S2048x8x32, .f32⟩
  | .hbm, ⟨7, _⟩ => ⟨S2048x2x128, .f32⟩
  | .hbm, ⟨8, _⟩ => ⟨S2048x8, .i32⟩
  | .hbm, ⟨9, _⟩ => ⟨S2048x1x128, .f32⟩
  | .hbm, ⟨10, _⟩ => ⟨S2048x128, .f32⟩
  | .hbm, ⟨11, _⟩ => ⟨S2048x1x128, .f32⟩
  | .hbm, ⟨12, _⟩ => ⟨S2048x128, .f32⟩
  | .hbm, ⟨13, _⟩ => ⟨S1x32, .f32⟩
  | .hbm, ⟨14, _⟩ => ⟨S1x32, .f32⟩
  | .hbm, ⟨15, _⟩ => ⟨S1x1, .f32⟩
  | .local _ .vmem, ⟨0, _⟩ => ⟨S2048x8x32, .f32⟩
  | .local _ .vmem, ⟨1, _⟩ => ⟨S2048x128, .f32⟩
  | .local _ .vmem, ⟨2, _⟩ => ⟨S2048x128, .f32⟩
  | .local _ .vmem, ⟨3, _⟩ => ⟨S2048x8, .i32⟩
  | .local _ .vmem, ⟨4, _⟩ => ⟨S32x32, .f32⟩
  | .local _ .vmem, ⟨5, _⟩ => ⟨S1x32, .f32⟩
  | .local _ .vmem, ⟨6, _⟩ => ⟨S1x32, .f32⟩
  | .local _ .vmem, ⟨7, _⟩ => ⟨S1x1, .f32⟩
  | .local _ .vmem, ⟨8, _⟩ => ⟨S127x32x128, .f32⟩
  | _, _ => ⟨S8x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_511 : BitVec 32 := 0#32
  let c14_i32_512 : BitVec 32 := 14#32
  let v1586 : BitVec 32 := Scalar.addi c0_i32_511 c14_i32_512
  let c1_i32_513 : BitVec 32 := 1#32
  ⟨c0_i32_511, v1586, c1_i32_513⟩
def k0_off1 (k0_t1 : Fin k0_t1_loop.trips) (c0_i32_586 : BitVec 32) : Fin 3 → Nat :=
  let c0_i32_511 : BitVec 32 := 0#32
  let c1_i32_513 : BitVec 32 := 1#32
  let arg9 : BitVec 32 := Scf.iv c0_i32_511 c1_i32_513 k0_t1
  let c9_i32 : BitVec 32 := 9#32
  let v2045 : BitVec 32 := Scalar.muli arg9 c9_i32
  let v2046 : BitVec 32 := Scalar.addi v2045 c0_i32_586
  let c1_i32_587 : BitVec 32 := 1#32
  let v2047 : BitVec 32 := Scalar.addi v2046 c1_i32_587
  let v2048 : Index := Scalar.indexCast v2047
  let c0_588 : Index := 0#32
  let c0_589 : Index := 0#32
  ![v2048.toNat, 0, 0]
abbrev stage0_0 : Fin 1 → Memref sig .tc .vmem S2048x8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S8x2048x32 : Shape := ⟨3, ![8, 2048, 32]⟩
abbrev S8x2048 : Shape := ⟨2, ![8, 2048]⟩
abbrev S32x32 : Shape := ⟨2, ![32, 32]⟩
abbrev S32 : Shape := ⟨1, ![32]⟩
abbrev S2048x8x32 : Shape := ⟨3, ![2048, 8, 32]⟩
abbrev S2048x8 : Shape := ⟨2, ![2048, 8]⟩
abbrev S2048x8x32x1 : Shape := ⟨4, ![2048, 8, 32, 1]⟩
abbrev S1x1x32x32 : Shape := ⟨4, ![1, 1, 32, 32]⟩
abbrev S2048x8x32x32 : Shape := ⟨4, ![2048, 8, 32, 32]⟩
abbrev S2048 : Shape := ⟨1, ![2048]⟩
abbrev S2048x1x1x1 : Shape := ⟨4, ![2048, 1, 1, 1]⟩
abbrev S1x1x1x32 : Shape := ⟨4, ![1, 1, 1, 32]⟩
abbrev S_ : Shape := ⟨0, ![]⟩
abbrev S1x1x32 : Shape := ⟨3, ![1, 1, 32]⟩
abbrev S8 : Shape := ⟨1, ![8]⟩
abbrev S2048x1 : Shape := ⟨2, ![2048, 1]⟩
abbrev S1x8 : Shape := ⟨2, ![1, 8]⟩
abbrev S2048x8x1x1 : Shape := ⟨4, ![2048, 8, 1, 1]⟩
abbrev S1x1x32x1 : Shape := ⟨4, ![1, 1, 32, 1]⟩
abbrev S2047x8 : Shape := ⟨2, ![2047, 8]⟩
abbrev S2048x8x1 : Shape := ⟨3, ![2048, 8, 1]⟩
abbrev S2048x8x4 : Shape := ⟨3, ![2048, 8, 4]⟩
abbrev S1x8x32x32 : Shape := ⟨4, ![1, 8, 32, 32]⟩
abbrev S8x32x32 : Shape := ⟨3, ![8, 32, 32]⟩
abbrev S8x32 : Shape := ⟨2, ![8, 32]⟩
abbrev S8x32x1 : Shape := ⟨3, ![8, 32, 1]⟩
abbrev S2047x8x32x32 : Shape := ⟨4, ![2047, 8, 32, 32]⟩
abbrev S8x1x32 : Shape := ⟨3, ![8, 1, 32]⟩
abbrev S8x1 : Shape := ⟨2, ![8, 1]⟩
abbrev S1x1 : Shape := ⟨2, ![1, 1]⟩

abbrev nBuf : Space → Nat
  | .hbm => 184
  | .vmem => 0
  | .smem => 0
  | _ => 0

abbrev hbmTy0_0 (i : Nat) : BufTy := match i % 128 with
  | 0 => ⟨S8x2048x32, .f32⟩
  | 1 => ⟨S8x2048, .i32⟩
  | 2 => ⟨S8x2048, .i32⟩
  | 3 => ⟨S32x32, .f32⟩
  | 4 => ⟨S32, .f32⟩
  | 5 => ⟨S32, .f32⟩
  | 6 => ⟨S2048x8x32, .f32⟩
  | 7 => ⟨S2048x8, .i32⟩
  | 8 => ⟨S2048x8, .i32⟩
  | 9 => ⟨S2048x8, .f32⟩
  | 10 => ⟨S2048x8x32x1, .f32⟩
  | 11 => ⟨S32x32, .f32⟩
  | 12 => ⟨S1x1x32x32, .f32⟩
  | 13 => ⟨S2048x8x32x32, .f32⟩
  | 14 => ⟨S2048x8x32x32, .f32⟩
  | 15 => ⟨S2048x8x32x32, .f32⟩
  | 16 => ⟨S2048, .i32⟩
  | 17 => ⟨S2048x1x1x1, .i32⟩
  | 18 => ⟨S32, .i32⟩
  | 19 => ⟨S1x1x1x32, .i32⟩
  | 20 => ⟨S_, .i32⟩
  | 21 => ⟨S1x1x1x32, .i32⟩
  | 22 => ⟨S1x1x1x32, .i1⟩
  | 23 => ⟨S1x1x32, .f32⟩
  | 24 => ⟨S2048x8x32, .f32⟩
  | 25 => ⟨S2048x8x32, .f32⟩
  | 26 => ⟨S2048x8x32x1, .f32⟩
  | 27 => ⟨S_, .f32⟩
  | 28 => ⟨S_, .f32⟩
  | 29 => ⟨S2048x8x32x32, .i1⟩
  | 30 => ⟨S2048x8x32x32, .f32⟩
  | 31 => ⟨S2048x8x32x32, .f32⟩
  | 32 => ⟨S2048x8x32x32, .f32⟩
  | 33 => ⟨S_, .i32⟩
  | 34 => ⟨S2048x1x1x1, .i32⟩
  | 35 => ⟨S2048x1x1x1, .i1⟩
  | 36 => ⟨S2048x8x32x32, .i1⟩
  | 37 => ⟨S2048x8x32x32, .f32⟩
  | 38 => ⟨S_, .i32⟩
  | 39 => ⟨S8, .i32⟩
  | 40 => ⟨S_, .i32⟩
  | 41 => ⟨S8, .i32⟩
  | 42 => ⟨S8, .i32⟩
  | 43 => ⟨S2048, .i32⟩
  | 44 => ⟨S2048x1, .i32⟩
  | 45 => ⟨S1x8, .i32⟩
  | 46 => ⟨S2048x8, .i32⟩
  | 47 => ⟨S2048x8, .i32⟩
  | 48 => ⟨S2048x8, .i1⟩
  | 49 => ⟨S2048x8, .f32⟩
  | 50 => ⟨S2048x8x1x1, .f32⟩
  | 51 => ⟨S1x1x32x1, .f32⟩
  | 52 => ⟨S2048x8x32x1, .f32⟩
  | 53 => ⟨S2048x8x32x1, .f32⟩
  | 54 => ⟨S2048x8x32x1, .f32⟩
  | 55 => ⟨S2048x8x32x32, .f32⟩
  | 56 => ⟨S2048x8x32x32, .f32⟩
  | 57 => ⟨S_, .i32⟩
  | 58 => ⟨S1x8, .i32⟩
  | 59 => ⟨S2047x8, .i32⟩
  | 60 => ⟨S2048x8, .i32⟩
  | 61 => ⟨S2048, .i32⟩
  | 62 => ⟨S2048x1, .i32⟩
  | 63 => ⟨S8, .i32⟩
  | 64 => ⟨S1x8, .i32⟩
  | 65 => ⟨S_, .i32⟩
  | 66 => ⟨S2048x1, .i32⟩
  | 67 => ⟨S2048x1, .i1⟩
  | 68 => ⟨S_, .i32⟩
  | 69 => ⟨S2048x1, .i32⟩
  | 70 => ⟨S2048x1, .i32⟩
  | 71 => ⟨S2048x1, .i32⟩
  | 72 => ⟨S_, .i32⟩
  | 73 => ⟨S1x8, .i32⟩
  | 74 => ⟨S1x8, .i1⟩
  | 75 => ⟨S_, .i32⟩
  | 76 => ⟨S1x8, .i32⟩
  | 77 => ⟨S1x8, .i32⟩
  | 78 => ⟨S1x8, .i32⟩
  | 79 => ⟨S_, .i32⟩
  | 80 => ⟨S2048x8, .i32⟩
  | 81 => ⟨S2048x8, .i1⟩
  | 82 => ⟨S_, .i32⟩
  | 83 => ⟨S2048x8, .i32⟩
  | 84 => ⟨S2048x8, .i32⟩
  | 85 => ⟨S2048x8, .i32⟩
  | 86 => ⟨S_, .i32⟩
  | 87 => ⟨S2048x8, .i32⟩
  | 88 => ⟨S2048x8, .i1⟩
  | 89 => ⟨S_, .i32⟩
  | 90 => ⟨S2048x8, .i32⟩
  | 91 => ⟨S2048x8, .i32⟩
  | 92 => ⟨S2048x8, .i32⟩
  | 93 => ⟨S2048x8, .i32⟩
  | 94 => ⟨S2048x8, .i32⟩
  | 95 => ⟨S2048x8x1, .i32⟩
  | 96 => ⟨S2048x8x1, .i32⟩
  | 97 => ⟨S2048x8x1, .i32⟩
  | 98 => ⟨S2048x8x1, .i32⟩
  | 99 => ⟨S2048x8x4, .i32⟩
  | 100 => ⟨S2048x8, .f32⟩
  | 101 => ⟨S1x8, .f32⟩
  | 102 => ⟨S8, .f32⟩
  | 103 => ⟨S1x8x32x32, .f32⟩
  | 104 => ⟨S8x32x32, .f32⟩
  | 105 => ⟨S_, .f32⟩
  | 106 => ⟨S8x32, .f32⟩
  | 107 => ⟨S8x32x1, .f32⟩
  | 108 => ⟨S8x32, .f32⟩
  | 109 => ⟨S8x32x32, .f32⟩
  | 110 => ⟨S8x32x32, .f32⟩
  | 111 => ⟨S8x32x32, .f32⟩
  | 112 => ⟨S_, .f32⟩
  | 113 => ⟨S8x32, .f32⟩
  | 114 => ⟨S8x32, .f32⟩
  | 115 => ⟨S8x32, .f32⟩
  | 116 => ⟨S2047x8x32x32, .f32⟩
  | 117 => ⟨S2047x8, .f32⟩
  | 118 => ⟨S2047x8, .f32⟩
  | 119 => ⟨S_, .i32⟩
  | 120 => ⟨S2047x8x32x32, .f32⟩
  | 121 => ⟨S2047x8, .f32⟩
  | 122 => ⟨S2047x8, .f32⟩
  | 123 => ⟨S_, .i32⟩
  | 124 => ⟨S8, .f32⟩
  | 125 => ⟨S8x32, .f32⟩
  | 126 => ⟨S_, .i32⟩
  | 127 => ⟨S_, .i1⟩
  | _ => ⟨S8x2048x32, .f32⟩

abbrev hbmTy0_1 (i : Nat) : BufTy := match i % 128 with
  | 0 => ⟨S_, .i32⟩
  | 1 => ⟨S_, .i32⟩
  | 2 => ⟨S_, .i32⟩
  | 3 => ⟨S1x8x32x32, .f32⟩
  | 4 => ⟨S8x32x32, .f32⟩
  | 5 => ⟨S_, .i32⟩
  | 6 => ⟨S1x8, .f32⟩
  | 7 => ⟨S8, .f32⟩
  | 8 => ⟨S_, .i32⟩
  | 9 => ⟨S1x8, .f32⟩
  | 10 => ⟨S8, .f32⟩
  | 11 => ⟨S8x1x32, .f32⟩
  | 12 => ⟨S8x32x32, .f32⟩
  | 13 => ⟨S8x32x32, .f32⟩
  | 14 => ⟨S_, .f32⟩
  | 15 => ⟨S8x32, .f32⟩
  | 16 => ⟨S8x32x1, .f32⟩
  | 17 => ⟨S8x32, .f32⟩
  | 18 => ⟨S8x32x32, .f32⟩
  | 19 => ⟨S8x32x32, .f32⟩
  | 20 => ⟨S8x32x32, .f32⟩
  | 21 => ⟨S_, .f32⟩
  | 22 => ⟨S8x32, .f32⟩
  | 23 => ⟨S8x32, .f32⟩
  | 24 => ⟨S8x32, .f32⟩
  | 25 => ⟨S8x1, .f32⟩
  | 26 => ⟨S8, .f32⟩
  | 27 => ⟨S8, .f32⟩
  | 28 => ⟨S8x32, .f32⟩
  | 29 => ⟨S8x32, .f32⟩
  | 30 => ⟨S_, .f32⟩
  | 31 => ⟨S8x1, .f32⟩
  | 32 => ⟨S8x1, .f32⟩
  | 33 => ⟨S8x32, .f32⟩
  | 34 => ⟨S8x32, .f32⟩
  | 35 => ⟨S8x32, .f32⟩
  | 36 => ⟨S_, .i32⟩
  | 37 => ⟨S_, .i32⟩
  | 38 => ⟨S_, .f32⟩
  | 39 => ⟨S_, .f32⟩
  | 40 => ⟨S_, .f32⟩
  | 41 => ⟨S8, .f32⟩
  | 42 => ⟨S8x1, .f32⟩
  | 43 => ⟨S8, .f32⟩
  | 44 => ⟨S8x32, .f32⟩
  | 45 => ⟨S8x32, .f32⟩
  | 46 => ⟨S8x32, .f32⟩
  | 47 => ⟨S_, .f32⟩
  | 48 => ⟨S8, .f32⟩
  | 49 => ⟨S8, .f32⟩
  | 50 => ⟨S8, .f32⟩
  | 51 => ⟨S8, .f32⟩
  | 52 => ⟨S8, .f32⟩
  | 53 => ⟨S_, .f32⟩
  | 54 => ⟨S_, .f32⟩
  | 55 => ⟨S1x1, .f32⟩
  | _ => ⟨S8x2048x32, .f32⟩

abbrev hbmTy (i : Nat) : BufTy := match i / 128 with
  | 0 => hbmTy0_0 i
  | 1 => hbmTy0_1 i
  | _ => ⟨S8x2048x32, .f32⟩

abbrev bufTy : (tb : Table) → Fin (tcTables nBuf tb) → BufTy
  | .hbm, ⟨i, _⟩ => hbmTy i
  | _, _ => ⟨S8x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_v20 : Ref sig .tc := ⟨.hbm, 32, rfl⟩
abbrev main_c_0 : Ref sig .tc := ⟨.hbm, 33, rfl⟩
abbrev main_v21 : Ref sig .tc := ⟨.hbm, 34, rfl⟩
abbrev main_v22 : Ref sig .tc := ⟨.hbm, 35, rfl⟩
abbrev main_call1_v0 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_3 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_4 : Ref sig .tc := ⟨.hbm, 65, rfl⟩
abbrev main_v48 : Ref sig .tc := ⟨.hbm, 66, rfl⟩
abbrev main_v49 : Ref sig .tc := ⟨.hbm, 67, rfl⟩
abbrev main_c_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_6 : Ref sig .tc := ⟨.hbm, 72, rfl⟩
abbrev main_v53 : Ref sig .tc := ⟨.hbm, 73, rfl⟩
abbrev main_v54 : Ref sig .tc := ⟨.hbm, 74, rfl⟩
abbrev main_c_7 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_8 : Ref sig .tc := ⟨.hbm, 79, rfl⟩
abbrev main_v58 : Ref sig .tc := ⟨.hbm, 80, rfl⟩
abbrev main_v59 : Ref sig .tc := ⟨.hbm, 81, rfl⟩
abbrev main_c_9 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_10 : Ref sig .tc := ⟨.hbm, 86, rfl⟩
abbrev main_v63 : Ref sig .tc := ⟨.hbm, 87, rfl⟩
abbrev main_v64 : Ref sig .tc := ⟨.hbm, 88, rfl⟩
abbrev main_c_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_12 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_13 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_14 : Ref sig .tc := ⟨.hbm, 119, rfl⟩
abbrev main_v92_0 : Ref sig .tc := ⟨.hbm, 120, rfl⟩
abbrev main_v92_1 : Ref sig .tc := ⟨.hbm, 121, rfl⟩
abbrev main_v92_2 : Ref sig .tc := ⟨.hbm, 122, rfl⟩
abbrev main_v92_3 : Ref sig .tc := ⟨.hbm, 123, rfl⟩
abbrev main_v92_4 : Ref sig .tc := ⟨.hbm, 124, rfl⟩
abbrev main_v92_5 : Ref sig .tc := ⟨.hbm, 125, rfl⟩
abbrev main_while0c_c_24 : Ref sig .tc := ⟨.hbm, 126, rfl⟩
abbrev main_while0c_v107 : Ref sig .tc := ⟨.hbm, 127, rfl⟩
abbrev main_while0b_call2_c : Ref sig .tc := ⟨.hbm, 128, rfl⟩
abbrev main_while0b_call2_c_0 : Ref sig .tc := ⟨.hbm, 129, rfl⟩
abbrev main_while0b_call2_c_1 : Ref sig .tc := ⟨.hbm, 130, rfl⟩
abbrev main_while0b_call2_v0 : Ref sig .tc := ⟨.hbm, 131, rfl⟩
abbrev main_while0b_v107 : Ref sig .tc := ⟨.hbm, 132, rfl⟩
abbrev main_while0b_call3_c : Ref sig .tc := ⟨.hbm, 133, rfl⟩
abbrev main_while0b_call3_v0 : Ref sig .tc := ⟨.hbm, 134, rfl⟩
abbrev main_while0b_v108 : Ref sig .tc := ⟨.hbm, 135, rfl⟩
abbrev main_while0b_call4_c : Ref sig .tc := ⟨.hbm, 136, rfl⟩
abbrev main_while0b_call4_v0 : Ref sig .tc := ⟨.hbm, 137, rfl⟩
abbrev main_while0b_v109 : Ref sig .tc := ⟨.hbm, 138, rfl⟩
abbrev main_while0b_v110 : Ref sig .tc := ⟨.hbm, 139, rfl⟩
abbrev main_while0b_v111 : Ref sig .tc := ⟨.hbm, 140, rfl⟩
abbrev main_while0b_v112 : Ref sig .tc := ⟨.hbm, 141, rfl⟩
abbrev main_while0b_cst_24 : Ref sig .tc := ⟨.hbm, 142, rfl⟩
abbrev main_while0b_v113 : Ref sig .tc := ⟨.hbm, 143, rfl⟩
abbrev main_while0b_v114 : Ref sig .tc := ⟨.hbm, 144, rfl⟩
abbrev main_while0b_v115 : Ref sig .tc := ⟨.hbm, 145, rfl⟩
abbrev main_while0b_v116 : Ref sig .tc := ⟨.hbm, 146, rfl⟩
abbrev main_while0b_v117 : Ref sig .tc := ⟨.hbm, 147, rfl⟩
abbrev main_while0b_v118 : Ref sig .tc := ⟨.hbm, 148, rfl⟩
abbrev main_while0b_cst_25 : Ref sig .tc := ⟨.hbm, 149, rfl⟩
abbrev main_while0b_v119 : Ref sig .tc := ⟨.hbm, 150, rfl⟩
abbrev main_while0b_v120 : Ref sig .tc := ⟨.hbm, 151, rfl⟩
abbrev main_while0b_v121 : Ref sig .tc := ⟨.hbm, 152, rfl⟩
abbrev main_while0b_v122 : Ref sig .tc := ⟨.hbm, 153, rfl⟩
abbrev main_while0b_v123 : Ref sig .tc := ⟨.hbm, 154, rfl⟩
abbrev main_while0b_v124 : Ref sig .tc := ⟨.hbm, 155, rfl⟩
abbrev main_while0b_v125 : Ref sig .tc := ⟨.hbm, 156, rfl⟩
abbrev main_while0b_v126 : Ref sig .tc := ⟨.hbm, 157, rfl⟩
abbrev main_while0b_cst_26 : Ref sig .tc := ⟨.hbm, 158, rfl⟩
abbrev main_while0b_v127 : Ref sig .tc := ⟨.hbm, 159, rfl⟩
abbrev main_while0b_v128 : Ref sig .tc := ⟨.hbm, 160, rfl⟩
abbrev main_while0b_v129 : Ref sig .tc := ⟨.hbm, 161, rfl⟩
abbrev main_while0b_v130 : Ref sig .tc := ⟨.hbm, 162, rfl⟩
abbrev main_while0b_v131 : Ref sig .tc := ⟨.hbm, 163, rfl⟩
abbrev main_while0b_c_27 : Ref sig .tc := ⟨.hbm, 164, rfl⟩
abbrev main_while0b_v132 : Ref sig .tc := ⟨.hbm, 165, rfl⟩
abbrev main_cst_15 : Ref sig .tc := ⟨.hbm, 166, rfl⟩
abbrev main_v93 : Ref sig .tc := ⟨.hbm, 167, rfl⟩
abbrev main_cst_16 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_cst_17 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_cst_18 : Ref sig .tc := ⟨.hbm, 181, rfl⟩
abbrev main_v105 : Ref sig .tc := ⟨.hbm, 182, rfl⟩
abbrev main_v106 : Ref sig .tc := ⟨.hbm, 183, rfl⟩

abbrev nD : Nat := 1
abbrev τ : Topo := Topo.v7x

variable {F : FTy → Type} [FloatOps F]

abbrev main_while0_count : Scf.Loop 32 := ⟨0#32, 2047#32, 1#32⟩
-- ==== Proof.Crf.KernelTerm.lean ====
module
public import proofs.«01_k».proof.Proof.Gen.KernelIdeal.Frame
public import Idealize.ShloMosaic.Lib.WritesUnit
@[expose] public section

/-! The kernel's result as a few recursions over the blocks it loads. -/

noncomputable section
namespace Cert.Proof.Crf
open Cert.KernelIdeal Cert.KernelIdeal.Gen
open Idealize.ShloMosaic Idealize.SL.Sem

variable {F : FTy → Type} [FloatOps F]

/-- The blocks the kernel loads. -/
structure Ld (F : FTy → Type) [FloatOps F] where
  tr : Vec F S32x32 .f32
  st : Vec F S1x32 .f32
  en : Vec F S1x32 .f32
  g0 : Vec F S1x8x32 .f32
  t0 : Vec F S1x8 .i32
  G : Fin 16 → Vec F S127x8x32 .f32
  P : Fin 2 → Fin 16 → Vec F S127x128 .f32
  TG : Fin 16 → Vec F S127x8 .i32
  GT : Vec F S15x8x32 .f32
  TT : Vec F S15x8 .i32

/-- The sum of a matrix, as the kernel spells it. -/
def tot {a b : ℕ} (h₁ : Shape.ShapeCasts ⟨2, ![a, b]⟩ ⟨3, ![1, a, b]⟩)
    (h₂ : Shape.Reduces ⟨3, ![1, a, b]⟩ [1, 2] S1) (v : FVec F ⟨2, ![a, b]⟩ .f32) : F .f32 :=
  extractAt ![0, 0, 0] (shapeCast S1x1x1
    (multiReduction .add [1, 2] S1 (shapeCast ⟨3, ![1, a, b]⟩ v h₁) 0x00000000#32 h₂ (.inl rfl) rfl)
    shapeCasts_S1_S1x1x1) inpos_S1x1x1_p0_0_0

/-- The row selector of a half. -/
def sel (h : Fin 2) : FVec F S8x128 .f32 := match h with
  | 0 => k0_pay23
  | 1 => kernelRun0_A.sl.r_15

def blk : FVec F S128x128 .f32 := kernelRun0_A.sl.r_4

def tr4 (tr : Vec F S32x32 .f32) : FVec F S128x32 .f32 :=
  concatenate S128x32 0 [⟨S32x32, tr⟩, ⟨S32x32, tr⟩, ⟨S32x32, tr⟩, ⟨S32x32, tr⟩]
    concatenates_S32x32_S32x32_S32x32_S32x32_S128x32_d0

def BT (tr : Vec F S32x32 .f32) : FVec F S128x128 .f32 :=
  mulf blk (concatenate S128x128 1 [⟨S128x32, tr4 tr⟩, ⟨S128x32, tr4 tr⟩, ⟨S128x32, tr4 tr⟩, ⟨S128x32, tr4 tr⟩]
    concatenates_S128x32_S128x32_S128x32_S128x32_S128x128_d1)

def BThi (tr : Vec F S32x32 .f32) : FVec F S128x128 .f32 :=
  extf .f32 (truncf .bf16 (BT tr) bitsLt_bf16_f32) bitsLt_bf16_f32

def BTlo (tr : Vec F S32x32 .f32) : FVec F S128x128 .f32 := subf (BT tr) (BThi tr)

def Et (tr : Vec F S32x32 .f32) : FVec F S32x128 .f32 := k0_pay6 tr

def BD (tr : Vec F S32x32 .f32) : FVec F S128x128 .f32 :=
  mulf blk (concatenate S128x128 0 [⟨S32x128, Et tr⟩, ⟨S32x128, Et tr⟩, ⟨S32x128, Et tr⟩, ⟨S32x128, Et tr⟩]
    concatenates_S32x128_S32x128_S32x128_S32x128_S128x128_d0)

/-- The one-hot rows of a segment's tags, packed for a half. -/
def oh (h : Fin 2) (tg : Vec F S127x8 .i32) : FVec F S127x128 .f32 := k0_pay42 (sel h) k0_pay27 (k0_pay32 tg)

def rp (tr : Vec F S32x32 .f32) (h : Fin 2) (tg : Vec F S127x8 .i32) : FVec F S127x128 .f32 :=
  addf (matmul dot_S127x128_S128x128_S127x128_1_0_0_1_n_n none (oh h tg) (BThi tr) (constant S127x128 .f32 0x00000000#32))
    (matmul dot_S127x128_S128x128_S127x128_1_0_0_1_n_n none (oh h tg) (BTlo tr) (constant S127x128 .f32 0x00000000#32))

def halfNum (num : F .f32) (o r gp : FVec F S127x128 .f32) (prev : FVec F S1x128 .f32) : F .f32 :=
  Scalar.addf (Scalar.addf (Scalar.addf num
    (tot shapeCasts_S127x128_S1x127x128 reduces_S1x127x128_S1 (mulf o gp)))
    (tot shapeCasts_S126x128_S1x126x128 reduces_S1x126x128_S1
      (mulf (extractStridedSlice S126x128 ![1, 0] o slices_S127x128_o1_0_S126x128)
        (extractStridedSlice S126x128 ![0, 0] r slices_S127x128_o0_0_S126x128))))
    (tot shapeCasts_S1x128_S1x1x128 reduces_S1x1x128_S1
      (mulf (extractStridedSlice S1x128 ![0, 0] o slices_S127x128_o0_0_S1x128) prev))

/-- What the segment loop carries: the emission maxima, the score and the last transition rows. -/
structure Seg (F : FTy → Type) [FloatOps F] where
  gms : FVec F S8x1 .f32
  num : F .f32
  prev : Fin 2 → FVec F S1x128 .f32

def segStep (d : Ld F) (k : Fin 16) (s : Seg F) : Seg F where
  gms := k0_pay31 s.gms (d.G k)
  num := halfNum (halfNum s.num (oh 0 (d.TG k)) (rp d.tr 0 (d.TG k)) (k0_pay33 (d.P 0 k)) (s.prev 0))
    (oh 1 (d.TG k)) (rp d.tr 1 (d.TG k)) (k0_pay33 (d.P 1 k)) (s.prev 1)
  prev h := extractStridedSlice S1x128 ![126, 0] (rp d.tr h (d.TG k)) slices_S127x128_o126_0_S1x128

def g0 (d : Ld F) : FVec F S8x32 .f32 := k0_pay16 d.st d.g0
def ohA (d : Ld F) : IVec S8x32 32 := k0_pay19 d.t0

def seg0 (d : Ld F) : Seg F where
  gms := k0_pay17 d.st d.g0
  num := k0_pay21 (g0 d) (ohA d)
  prev h := match h with
    | 0 => k0_pay28 (k0_pay22 d.tr (ohA d))
    | 1 => k0_pay29 (k0_pay22 d.tr (ohA d))

def segs (d : Ld F) (n : ℕ) : Seg F := Nat.rec (seg0 d) (fun k s => segStep d (Fin.ofNat 16 k) s) n

/-- The packed weights the kernel stores for a segment and a half. -/
def slot (d : Ld F) (k : Fin 16) (h : Fin 2) : FVec F S127x1x128 .f32 :=
  k0_pay41 (sel h) (k0_pay30 (d.G k)) (d.P h k)

def slots (d : Ld F) (i : Fin 32) : FVec F S127x1x128 .f32 := slot d (Fin.ofNat 16 (i.val / 2)) (Fin.ofNat 2 (i.val % 2))

def prevR (s : Seg F) : FVec F S8x32 .f32 :=
  concatenate S8x32 0 [⟨S1x32, extractStridedSlice S1x32 ![0, 0] (s.prev 0) slices_S1x128_o0_0_S1x32⟩,
    ⟨S1x32, extractStridedSlice S1x32 ![0, 32] (s.prev 0) slices_S1x128_o0_32_S1x32⟩,
    ⟨S1x32, extractStridedSlice S1x32 ![0, 64] (s.prev 0) slices_S1x128_o0_64_S1x32⟩,
    ⟨S1x32, extractStridedSlice S1x32 ![0, 96] (s.prev 0) slices_S1x128_o0_96_S1x32⟩,
    ⟨S1x32, extractStridedSlice S1x32 ![0, 0] (s.prev 1) slices_S1x128_o0_0_S1x32⟩,
    ⟨S1x32, extractStridedSlice S1x32 ![0, 32] (s.prev 1) slices_S1x128_o0_32_S1x32⟩,
    ⟨S1x32, extractStridedSlice S1x32 ![0, 64] (s.prev 1) slices_S1x128_o0_64_S1x32⟩,
    ⟨S1x32, extractStridedSlice S1x32 ![0, 96] (s.prev 1) slices_S1x128_o0_96_S1x32⟩]
    concatenates_S1x32_S1x32_S1x32_S1x32_S1x32_S1x32_S1x32_S1x32_S8x32_d0

def oht (d : Ld F) : FVec F S15x8x32 .f32 := k0_pay301 kernelRun0_A.sl.v75 d.TT
def gmsF (d : Ld F) : FVec F S8x1 .f32 := k0_pay299 d.en (segs d 16).gms d.GT
def numF (d : Ld F) : F .f32 :=
  k0_pay304 (prevR (segs d 16)) (oht d) (k0_pay302 d.en kernelRun0_A.sl.v75 (segs d 16).num d.GT d.TT)
    (k0_pay303 d.tr kernelRun0_A.sl.v75 d.TT)

/-- One step of the packed products of transfer matrices. -/
def lstep (bd : FVec F S128x128 .f32) (w : FVec F S1x32x128 .f32) (A : FVec F S32x32x128 .f32) : FVec F S32x32x128 .f32 :=
  mulf (shapeCast S32x32x128 (matmul dot_S1024x128_S128x128_S1024x128_1_0_0_1_n_n none
      (shapeCast S1024x128 A shapeCasts_S32x32x128_S1024x128) bd (constant S1024x128 .f32 0x00000000#32))
      shapeCasts_S1024x128_S32x32x128)
    (broadcastTo S32x32x128 (shapeCast S32x1x128 (shapeCast S32x128 w shapeCasts_S1x32x128_S32x128) shapeCasts_S32x128_S32x1x128)
      broadcasts_S32x1x128_S32x32x128)

def lsteps (bd : FVec F S128x128 .f32) (w : ℕ → FVec F S1x32x128 .f32) (A : FVec F S32x32x128 .f32) (n : ℕ) :
    FVec F S32x32x128 .f32 := Nat.rec A (fun i X => lstep bd (w i) X) n

def sb (A : FVec F S32x32x128 .f32) : FVec F S32x128 .f32 :=
  matmul dot_S32x128_S128x128_S32x128_1_0_0_1_n_n none
    (multiReduction .add [1] S32x128 A 0x00000000#32 reduces_S32x32x128_S32x128 (.inl rfl) rfl) blk
    (constant S32x128 .f32 0x00000000#32)

def lnorm (A : FVec F S32x32x128 .f32) : FVec F S32x32x128 .f32 :=
  mulf A (broadcastTo S32x32x128 (shapeCast S32x1x128
    (divf (broadcast S32x128 (Scalar.ofBits .f32 0x3F800000#32)) (sb A)) shapeCasts_S32x128_S32x1x128)
    broadcasts_S32x1x128_S32x32x128)

def trip (bd : FVec F S128x128 .f32) (w : ℕ → FVec F S1x32x128 .f32)
    (s : FVec F S32x32x128 .f32 × FVec F S32x128 .f32) : FVec F S32x32x128 .f32 × FVec F S32x128 .f32 :=
  (lnorm (lsteps bd w s.1 9), addf s.2 (log (sb (lsteps bd w s.1 9))))

theorem slA (i : Fin 32) : S32x32x128.Slices ![i.val, 0, 0] S1x32x128 := by revert i; decide

def vpiece (A : FVec F S32x32x128 .f32) (k : ℕ) (V : FVec F S8x32 .f32) : FVec F S8x32 .f32 :=
  let U0 := matmul dot_S4x32_S32x128_S4x128_1_0_0_1_n_n none
    (extractStridedSlice S4x32 ![0, 0] V slices_S8x32_o0_0_S4x32)
    (shapeCast S32x128 (extractStridedSlice S1x32x128 ![(Fin.ofNat 32 (2 * k)).val, 0, 0] A (slA _)) shapeCasts_S1x32x128_S32x128)
    (constant S4x128 .f32 0x00000000#32)
  let U1 := matmul dot_S4x32_S32x128_S4x128_1_0_0_1_n_n none
    (extractStridedSlice S4x32 ![4, 0] V slices_S8x32_o4_0_S4x32)
    (shapeCast S32x128 (extractStridedSlice S1x32x128 ![(Fin.ofNat 32 (2 * k + 1)).val, 0, 0] A (slA _)) shapeCasts_S1x32x128_S32x128)
    (constant S4x128 .f32 0x00000000#32)
  concatenate S8x32 0 [⟨S1x32, extractStridedSlice S1x32 ![0, 0] U0 slices_S4x128_o0_0_S1x32⟩,
    ⟨S1x32, extractStridedSlice S1x32 ![1, 32] U0 slices_S4x128_o1_32_S1x32⟩,
    ⟨S1x32, extractStridedSlice S1x32 ![2, 64] U0 slices_S4x128_o2_64_S1x32⟩,
    ⟨S1x32, extractStridedSlice S1x32 ![3, 96] U0 slices_S4x128_o3_96_S1x32⟩,
    ⟨S1x32, extractStridedSlice S1x32 ![0, 0] U1 slices_S4x128_o0_0_S1x32⟩,
    ⟨S1x32, extractStridedSlice S1x32 ![1, 32] U1 slices_S4x128_o1_32_S1x32⟩,
    ⟨S1x32, extractStridedSlice S1x32 ![2, 64] U1 slices_S4x128_o2_64_S1x32⟩,
    ⟨S1x32, extractStridedSlice S1x32 ![3, 96] U1 slices_S4x128_o3_96_S1x32⟩]
    concatenates_S1x32_S1x32_S1x32_S1x32_S1x32_S1x32_S1x32_S1x32_S8x32_d0

def vmax (V : FVec F S8x32 .f32) : FVec F S8x1 .f32 :=
  shapeCast S8x1 (multiReduction .maximumf [1] S8 V 0xFF800000#32 reduces_S8x32_S8 (.inl rfl) rfl) shapeCasts_S8_S8x1

def vstep (A : FVec F S32x32x128 .f32) (k : ℕ) (s : FVec F S8x32 .f32 × FVec F S8x1 .f32) :
    FVec F S8x32 .f32 × FVec F S8x1 .f32 :=
  (divf (vpiece A k s.1) (broadcastTo S8x32 (vmax (vpiece A k s.1)) broadcasts_S8x1_S8x32),
    addf s.2 (log (vmax (vpiece A k s.1))))

def vsteps (A : FVec F S32x32x128 .f32) (V : FVec F S8x32 .f32) (n : ℕ) : FVec F S8x32 .f32 × FVec F S8x1 .f32 :=
  Nat.rec (V, broadcast S8x1 (Scalar.ofBits .f32 0x00000000#32)) (fun k s => vstep A k s) n

theorem slW (i : Fin 15) : S15x8x32.Slices ![i.val, 0, 0] S1x8x32 := by revert i; decide

def tstep (e : FVec F S32x32 .f32) (w : FVec F S15x8x32 .f32) (t : ℕ) (V : FVec F S8x32 .f32) : FVec F S8x32 .f32 :=
  mulf (matmul dot_S8x32_S32x32_S8x32_1_0_0_1_n_n none V e (constant S8x32 .f32 0x00000000#32))
    (shapeCast S8x32 (extractStridedSlice S1x8x32 ![(Fin.ofNat 15 t).val, 0, 0] w (slW _)) shapeCasts_S1x8x32_S8x32)

def tsteps (e : FVec F S32x32 .f32) (w : FVec F S15x8x32 .f32) (V : FVec F S8x32 .f32) (n : ℕ) : FVec F S8x32 .f32 :=
  Nat.rec V (fun t X => tstep e w t X) n

def Lb (la : FVec F S32x128 .f32) : FVec F S8x1 .f32 :=
  let v := multiReduction .add [0] S2x128 (shapeCast S16x2x128 la shapeCasts_S32x128_S16x2x128) 0x00000000#32
    reduces_S16x2x128_S2x128 (.inl rfl) rfl
  concatenate S8x1 0 [⟨S1x1, extractStridedSlice S1x1 ![0, 0] v slices_S2x128_o0_0_S1x1⟩,
    ⟨S1x1, extractStridedSlice S1x1 ![0, 32] v slices_S2x128_o0_32_S1x1⟩,
    ⟨S1x1, extractStridedSlice S1x1 ![0, 64] v slices_S2x128_o0_64_S1x1⟩,
    ⟨S1x1, extractStridedSlice S1x1 ![0, 96] v slices_S2x128_o0_96_S1x1⟩,
    ⟨S1x1, extractStridedSlice S1x1 ![1, 0] v slices_S2x128_o1_0_S1x1⟩,
    ⟨S1x1, extractStridedSlice S1x1 ![1, 32] v slices_S2x128_o1_32_S1x1⟩,
    ⟨S1x1, extractStridedSlice S1x1 ![1, 64] v slices_S2x128_o1_64_S1x1⟩,
    ⟨S1x1, extractStridedSlice S1x1 ![1, 96] v slices_S2x128_o1_96_S1x1⟩]
    concatenates_S1x1_S1x1_S1x1_S1x1_S1x1_S1x1_S1x1_S1x1_S8x1_d0

def denomL (d : Ld F) (A : FVec F S32x32x128 .f32) (la : FVec F S32x128 .f32) : FVec F S8x1 .f32 :=
  let s := vsteps A (k0_pay18 d.st d.g0) 16
  addf (addf s.2 (Lb la)) (log (shapeCast S8x1 (multiReduction .add [1] S8
    (tsteps (k0_pay5 d.tr) (k0_pay300 d.en d.GT) s.1 15) 0x00000000#32 reduces_S8x32_S8 (.inl rfl) rfl) shapeCasts_S8_S8x1))

/-- The kernel's result, from the loop's result. -/
def kout (d : Ld F) (A : FVec F S32x32x128 .f32) (la : FVec F S32x128 .f32) : FVec F S1x1 .f32 :=
  k0_pay385 (k0_pay4 d.tr) (gmsF d) (numF d) (denomL d A la)

section
variable (c : Dev nD)
  (arg0 : Memref sig .tc .vmem S2048x8x32 .f32) (harg0 : arg0.IsWhole)
  (arg1 : Memref sig .tc .vmem S2048x128 .f32) (harg1 : arg1.IsWhole)
  (arg2 : Memref sig .tc .vmem S2048x128 .f32) (harg2 : arg2.IsWhole)
  (arg3 : Memref sig .tc .vmem S2048x8 .i32) (harg3 : arg3.IsWhole)
  (arg4 : Memref sig .tc .vmem S32x32 .f32) (harg4 : arg4.IsWhole)
  (arg5 : Memref sig .tc .vmem S1x32 .f32) (harg5 : arg5.IsWhole)
  (arg6 : Memref sig .tc .vmem S1x32 .f32) (harg6 : arg6.IsWhole)
  (arg7 : Memref sig .tc .vmem S1x1 .f32) (harg7 : arg7.IsWhole)
  (arg8 : Memref sig .tc .vmem S127x32x128 .f32) (harg8 : arg8.IsWhole)
  (x0 : Vec F S2048x8x32 .f32) (x1 x2 : Vec F S2048x128 .f32) (x3 : Vec F S2048x8 .i32)
  (x4 : Vec F S32x32 .f32) (x5 x6 : Vec F S1x32 .f32)

theorem inbG (k : Fin 16) : ∀ a, (![1 + 127 * k.val, 0, 0] : Fin 3 → ℕ) a + S127x8x32.size a ≤ S2048x8x32.size a := by
  revert k; decide
theorem inbP (k : Fin 16) : ∀ a, (![1 + 127 * k.val, 0] : Fin 2 → ℕ) a + S127x128.size a ≤ S2048x128.size a := by
  revert k; decide
theorem inbT (k : Fin 16) : ∀ a, (![1 + 127 * k.val, 0] : Fin 2 → ℕ) a + S127x8.size a ≤ S2048x8.size a := by
  revert k; decide

/-- The loads of the run, read through the windows. -/
def ldA : Ld F where
  tr := arg4.view.readAt (Elt F) (Rect.unit (s := S32x32) ![0, 0] S32x32.size inb_S32x32_S32x32_0_0).toLoadRect (harg4.unread x4)
  st := arg5.view.readAt (Elt F) (Rect.unit (s := S1x32) ![0, 0] S1x32.size inb_S1x32_S1x32_0_0).toLoadRect (harg5.unread x5)
  en := k0_pay15 (arg6.view.readAt (Elt F) (Rect.unit (s := S1x32) ![0, 0] S1x32.size inb_S1x32_S1x32_0_0).toLoadRect (harg6.unread x6))
  g0 := arg0.view.readAt (Elt F) (Rect.unit (s := S2048x8x32) ![0, 0, 0] S1x8x32.size (by decide)).toLoadRect (harg0.unread x0)
  t0 := arg3.view.readAt (Elt F) (Rect.unit (s := S2048x8) ![0, 0] S1x8.size (by decide)).toLoadRect (harg3.unread x3)
  G k := arg0.view.readAt (Elt F) (Rect.unit (s := S2048x8x32) ![1 + 127 * k.val, 0, 0] S127x8x32.size (inbG k)).toLoadRect (harg0.unread x0)
  P h k := match h with
    | 0 => arg1.view.readAt (Elt F) (Rect.unit (s := S2048x128) ![1 + 127 * k.val, 0] S127x128.size (inbP k)).toLoadRect (harg1.unread x1)
    | 1 => arg2.view.readAt (Elt F) (Rect.unit (s := S2048x128) ![1 + 127 * k.val, 0] S127x128.size (inbP k)).toLoadRect (harg2.unread x2)
  TG k := arg3.view.readAt (Elt F) (Rect.unit (s := S2048x8) ![1 + 127 * k.val, 0] S127x8.size (inbT k)).toLoadRect (harg3.unread x3)
  GT := arg0.view.readAt (Elt F) (Rect.unit (s := S2048x8x32) ![2033, 0, 0] S15x8x32.size (by decide)).toLoadRect (harg0.unread x0)
  TT := arg3.view.readAt (Elt F) (Rect.unit (s := S2048x8) ![2033, 0] S15x8.size (by decide)).toLoadRect (harg3.unread x3)

theorem inbS (i : Fin 32) : ∀ a, (![0, i.val, 0] : Fin 3 → ℕ) a + S127x1x128.size a ≤ S127x32x128.size a := by
  revert i; decide

end
end Cert.Proof.Crf
end
-- ==== Proof.Crf.Bridge.lean ====
module
public import proofs.«01_k».proof.Proof.Crf.KernelTerm
@[expose] public section

/-! The words of the run are the recursions of `KernelTerm`. -/

noncomputable section
namespace Cert.Proof.Crf
open Cert.KernelIdeal Cert.KernelIdeal.Gen
open Idealize.ShloMosaic Idealize.SL.Sem

variable {F : FTy → Type} [FloatOps F]

section
variable (c : Dev nD)
  (arg0 : Memref sig .tc .vmem S2048x8x32 .f32) (harg0 : arg0.IsWhole)
  (arg1 : Memref sig .tc .vmem S2048x128 .f32) (harg1 : arg1.IsWhole)
  (arg2 : Memref sig .tc .vmem S2048x128 .f32) (harg2 : arg2.IsWhole)
  (arg3 : Memref sig .tc .vmem S2048x8 .i32) (harg3 : arg3.IsWhole)
  (arg4 : Memref sig .tc .vmem S32x32 .f32) (harg4 : arg4.IsWhole)
  (arg5 : Memref sig .tc .vmem S1x32 .f32) (harg5 : arg5.IsWhole)
  (arg6 : Memref sig .tc .vmem S1x32 .f32) (harg6 : arg6.IsWhole)
  (arg7 : Memref sig .tc .vmem S1x1 .f32) (harg7 : arg7.IsWhole)
  (arg8 : Memref sig .tc .vmem S127x32x128 .f32) (harg8 : arg8.IsWhole)
  (x0 : Vec F S2048x8x32 .f32) (x1 x2 : Vec F S2048x128 .f32) (x3 : Vec F S2048x8 .i32)
  (x4 : Vec F S32x32 .f32) (x5 x6 : Vec F S1x32 .f32)

theorem HS_eq : kernelRun0_A.sl.HS0_32 c arg0 harg0 arg1 harg1 arg2 harg2 x0 x1 x2
    = View.tilePieces (s := S127x32x128) S127x1x128.size (fun i : Fin 32 => ![0, i.val, 0]) inbS
      (fun i => slots (ldA arg0 harg0 arg1 harg1 arg2 harg2 arg3 harg3 arg4 harg4 arg5 harg5 arg6 harg6 x0 x1 x2 x3 x4 x5 x6) i) 32 le_rfl := by
  sl_kernel_rfl

theorem r232_eq : kernelRun0_A.sl.r_232 c arg0 harg0 arg1 harg1 arg2 harg2 arg3 harg3 arg4 harg4 arg5 harg5 arg6 harg6 arg7 harg7 arg8 harg8 x0 x1 x2 x3 x4 x5 x6
    = kout (ldA arg0 harg0 arg1 harg1 arg2 harg2 arg3 harg3 arg4 harg4 arg5 harg5 arg6 harg6 x0 x1 x2 x3 x4 x5 x6)
      (kernelRun0_A.sl.r_192 c arg0 harg0 arg1 harg1 arg2 harg2 arg3 harg3 arg4 harg4 arg5 harg5 arg6 harg6 arg7 harg7 arg8 harg8 x0 x1 x2 x3 x4 x5 x6)
      (kernelRun0_A.sl.r_193 c arg0 harg0 arg1 harg1 arg2 harg2 arg3 harg3 arg4 harg4 arg5 harg5 arg6 harg6 arg7 harg7 arg8 harg8 x0 x1 x2 x3 x4 x5 x6) := by
  sl_kernel_rfl

end
end Cert.Proof.Crf
end
-- ==== Proof.Crf.Loop.lean ====
module
public import proofs.«01_k».proof.Proof.Crf.KernelTerm
public import Idealize.ShloMosaic.Lib.Pointwise
@[expose] public section

/-! The loop's result is the fourteenth iterate of one trip. -/

noncomputable section
namespace Cert.Proof.Crf
open Cert.KernelIdeal Cert.KernelIdeal.Gen
open Idealize.ShloMosaic Idealize.SL.Sem

variable {F : FTy → Type} [FloatOps F]

section
variable (c : Dev nD)
  (arg0 : Memref sig .tc .vmem S2048x8x32 .f32) (harg0 : arg0.IsWhole)
  (arg1 : Memref sig .tc .vmem S2048x128 .f32) (harg1 : arg1.IsWhole)
  (arg2 : Memref sig .tc .vmem S2048x128 .f32) (harg2 : arg2.IsWhole)
  (arg3 : Memref sig .tc .vmem S2048x8 .i32) (harg3 : arg3.IsWhole)
  (arg4 : Memref sig .tc .vmem S32x32 .f32) (harg4 : arg4.IsWhole)
  (arg5 : Memref sig .tc .vmem S1x32 .f32) (harg5 : arg5.IsWhole)
  (arg6 : Memref sig .tc .vmem S1x32 .f32) (harg6 : arg6.IsWhole)
  (arg7 : Memref sig .tc .vmem S1x1 .f32) (harg7 : arg7.IsWhole)
  (arg8 : Memref sig .tc .vmem S127x32x128 .f32) (harg8 : arg8.IsWhole)
  (x0 : Vec F S2048x8x32 .f32) (x1 x2 : Vec F S2048x128 .f32) (x3 : Vec F S2048x8 .i32)
  (x4 : Vec F S32x32 .f32) (x5 x6 : Vec F S1x32 .f32)

/-- Row `n` of a block of stored weights. -/
def row (Y : Vec F S127x32x128 .f32) (n : ℕ) : FVec F S1x32x128 .f32 :=
  fun x => Y (ix3 (Fin.ofNat 127 n) (x 1) (x 2))

theorem readAt_row (X : BufTy.Contents (Elt F) arg8.view.ty) (n : ℕ) (hn : n < 127) (o : Fin 3 → ℕ)
    (ho : o = ![n, 0, 0]) (h) :
    arg8.view.readAt (Elt F) (Rect.unit (s := S127x32x128) o S1x32x128.size h).toLoadRect X
      = row (arg8.view.read (Elt F) X) n := by
  subst ho
  funext x
  refine congrArg (arg8.view.read (Elt F) X) (funext fun a => Fin.ext ?_)
  fin_cases a
  · change n + 1 * (x 0).val = n % 127
    have : (x 0).val < 1 := (x 0).isLt
    omega
  · change 0 + 1 * (x 1).val = (x 1).val
    omega
  · change 0 + 1 * (x 2).val = (x 2).val
    omega

theorem trips_eq : Scf.trips k0_t1_loop.lb k0_t1_loop.ub k0_t1_loop.st = 14 := by decide

/-- The loop's iterates. -/
def iter (bd : FVec F S128x128 .f32) (Y : Vec F S127x32x128 .f32) (s : FVec F S32x32x128 .f32 × FVec F S32x128 .f32)
    (n : ℕ) : FVec F S32x32x128 .f32 × FVec F S32x128 .f32 :=
  Nat.rec s (fun k s => trip bd (fun i => row Y (9 * k + i + 1)) s) n

theorem lsteps_congr (bd : FVec F S128x128 .f32) (w w' : ℕ → FVec F S1x32x128 .f32) (A : FVec F S32x32x128 .f32) (n : ℕ)
    (h : ∀ i < n, w i = w' i) : lsteps bd w A n = lsteps bd w' A n := by
  induction n with
  | zero => rfl
  | succ n ih =>
    change lstep bd (w n) (lsteps bd w A n) = lstep bd (w' n) (lsteps bd w' A n)
    rw [h n (by omega), ih fun i hi => h i (by omega)]

theorem trip_congr (bd : FVec F S128x128 .f32) (w w' : ℕ → FVec F S1x32x128 .f32)
    (s : FVec F S32x32x128 .f32 × FVec F S32x128 .f32) (h : ∀ i < 9, w i = w' i) : trip bd w s = trip bd w' s := by
  unfold trip; rw [lsteps_congr bd w w' s.1 9 h]

theorem st_eq (v8 : FVec F S32x128 .f32) (v63 : FVec F S128x128 .f32) (v85 v1524 : FVec F S8x32 .f32)
    (v1552 : FVec F S15x8x32 .f32) (v1558 : F .f32) (v1567 : FVec F S1x1x1x1 .f32)
    (X : BufTy.Contents (Elt F) arg8.view.ty) (init : FVec F S32x32x128 .f32 × FVec F S32x128 .f32) (n : ℕ) (hn : n ≤ 14) :
    st_k0_t1 Variants.none c none arg0 harg0 arg1 harg1 arg2 harg2 arg3 harg3 arg4 harg4 arg5 harg5 arg6 harg6 arg7 harg7
      arg8 harg8 v8 blk v63 v85 v1524 v1552 v1558 v1567 X init n
      = iter v63 (arg8.view.read (Elt F) X) init n := by
  induction n with
  | zero => rfl
  | succ k ih =>
    have hs := st_k0_t1_succ Variants.none c none arg0 harg0 arg1 harg1 arg2 harg2 arg3 harg3 arg4 harg4 arg5 harg5 arg6
      harg6 arg7 harg7 arg8 harg8 v8 blk v63 v85 v1524 v1552 v1558 v1567 X init ⟨k, hn⟩
    rw [hs, ih (by omega)]
    change _ = trip v63 (fun i => row (arg8.view.read (Elt F) X) (9 * k + i + 1)) (iter v63 (arg8.view.read (Elt F) X) init k)
    generalize iter v63 (arg8.view.read (Elt F) X) init k = s
    trans trip v63 (fun i => if h : i < 9 then arg8.view.readAt (Elt F) (Rect.unit (s := S127x32x128)
      (k0_off1 ⟨k, hn⟩ (BitVec.ofNat 32 i)) S1x32x128.size (k0_off1_inb ⟨k, hn⟩ ⟨i, h⟩)).toLoadRect X
      else row (arg8.view.read (Elt F) X) 0) s
    · unfold tripR_k0_t1
      rw [trip_k0_t1.eq_1]
      sl_kernel_rfl
    · refine trip_congr _ _ _ _ fun i hi => ?_
      rw [dif_pos hi]
      exact readAt_row arg8 X (9 * k + i + 1) (by omega) _ (k0_off1_eq ⟨k, hn⟩ ⟨i, hi⟩) _

end
end Cert.Proof.Crf
end
-- ==== Proof.Crf.Out.lean ====
module
public import proofs.«01_k».proof.Proof.Crf.Bridge
public import proofs.«01_k».proof.Proof.Crf.Loop
@[expose] public section

/-! The result block, as the kernel's recursions over the blocks it reads. -/

noncomputable section
namespace Cert.Proof.Crf
open Cert.KernelIdeal Cert.KernelIdeal.Gen
open Idealize.ShloMosaic Idealize.SL.Sem

variable {F : FTy → Type} [FloatOps F]

theorem tiles_at {sig : RefSig} {Val : EltTy → Type} (v : View sig .tc .vmem S127x32x128 .f32)
    (f : v.ty.Contents Val) (inb)
    (P : Fin 32 → (⟨3, S127x1x128.size⟩ : Shape).Idx → Val .f32) (l : Fin 127) (g : Fin 32) (q : Fin 128) :
    v.read Val (v.writes Val f
      (View.tilePieces (s := S127x32x128) S127x1x128.size (fun i : Fin 32 => ![0, i.val, 0]) inb P 32 le_rfl)) (ix3 l g q) = P g (ix3 l 0 q) := by
  refine View.read_tilePieces (s := S127x32x128) v f S127x1x128.size (fun i : Fin 32 => ![0, i.val, 0]) inb
    P 32 le_rfl _ g g.isLt _ ?_ 1 ?_
  · intro a; fin_cases a
    · change l.val = 0 + l.val; omega
    · change g.val = g.val + 0; omega
    · change q.val = 0 + q.val; omega
  · intro i hi
    have : i.val ≠ g.val := fun h => hi (Fin.ext h)
    change g.val < i.val ∨ i.val + 1 ≤ g.val
    omega

section
variable (c : Dev nD)
  (arg0 : Memref sig .tc .vmem S2048x8x32 .f32) (harg0 : arg0.IsWhole)
  (arg1 : Memref sig .tc .vmem S2048x128 .f32) (harg1 : arg1.IsWhole)
  (arg2 : Memref sig .tc .vmem S2048x128 .f32) (harg2 : arg2.IsWhole)
  (arg3 : Memref sig .tc .vmem S2048x8 .i32) (harg3 : arg3.IsWhole)
  (arg4 : Memref sig .tc .vmem S32x32 .f32) (harg4 : arg4.IsWhole)
  (arg5 : Memref sig .tc .vmem S1x32 .f32) (harg5 : arg5.IsWhole)
  (arg6 : Memref sig .tc .vmem S1x32 .f32) (harg6 : arg6.IsWhole)
  (arg7 : Memref sig .tc .vmem S1x1 .f32) (harg7 : arg7.IsWhole)
  (arg8 : Memref sig .tc .vmem S127x32x128 .f32) (harg8 : arg8.IsWhole)
  (x0 : Vec F S2048x8x32 .f32) (x1 x2 : Vec F S2048x128 .f32) (x3 : Vec F S2048x8 .i32)
  (x4 : Vec F S32x32 .f32) (x5 x6 : Vec F S1x32 .f32)

/-- The stored weights, read back from the scratch buffer. -/
def wts (d : Ld F) : Vec F S127x32x128 .f32 :=
  arg8.view.read (Elt F) (arg8.view.writes (Elt F) arg8.view.junk
    (View.tilePieces (s := S127x32x128) S127x1x128.size (fun i : Fin 32 => ![0, i.val, 0]) inbS (fun i => slots d i) 32 le_rfl))

/-- The kernel's result from its loaded blocks and its stored weights. -/
def kres (d : Ld F) (Y : Vec F S127x32x128 .f32) : FVec F S1x1 .f32 :=
  kout d (iter (BD d.tr) Y (k0_pay305 (Et d.tr) (row Y 0), k0_pay306) 14).1
    (iter (BD d.tr) Y (k0_pay305 (Et d.tr) (row Y 0), k0_pay306) 14).2

theorem tiles_at8 (l : Fin 127) (g : Fin 32) (q : Fin 128) (P : Fin 32 → FVec F S127x1x128 .f32) :
    arg8.view.read (Elt F) (arg8.view.writes (Elt F) arg8.view.junk
    (View.tilePieces (s := S127x32x128) S127x1x128.size (fun i : Fin 32 => ![0, i.val, 0]) inbS P 32 le_rfl)) (ix3 l g q) = P g (ix3 l 0 q) := by
  exact tiles_at (Val := Elt F) arg8.view arg8.view.junk inbS P l g q

theorem wts_at (d : Ld F) (l : Fin 127) (g : Fin 32) (q : Fin 128)  :
    wts arg8 d (ix3 l g q) = slots d g (ix3 l 0 q) := by
  unfold wts
  exact tiles_at8 arg8 l g q (slots d)
theorem loop_eq :
    (kernelRun0_A.sl.r_192 c arg0 harg0 arg1 harg1 arg2 harg2 arg3 harg3 arg4 harg4 arg5 harg5 arg6 harg6 arg7 harg7 arg8 harg8 x0 x1 x2 x3 x4 x5 x6,
      kernelRun0_A.sl.r_193 c arg0 harg0 arg1 harg1 arg2 harg2 arg3 harg3 arg4 harg4 arg5 harg5 arg6 harg6 arg7 harg7 arg8 harg8 x0 x1 x2 x3 x4 x5 x6)
    = iter (BD (ldA arg0 harg0 arg1 harg1 arg2 harg2 arg3 harg3 arg4 harg4 arg5 harg5 arg6 harg6 x0 x1 x2 x3 x4 x5 x6).tr)
      (wts arg8 (ldA arg0 harg0 arg1 harg1 arg2 harg2 arg3 harg3 arg4 harg4 arg5 harg5 arg6 harg6 x0 x1 x2 x3 x4 x5 x6))
      (k0_pay305 (Et (ldA arg0 harg0 arg1 harg1 arg2 harg2 arg3 harg3 arg4 harg4 arg5 harg5 arg6 harg6 x0 x1 x2 x3 x4 x5 x6).tr)
        (row (wts arg8 (ldA arg0 harg0 arg1 harg1 arg2 harg2 arg3 harg3 arg4 harg4 arg5 harg5 arg6 harg6 x0 x1 x2 x3 x4 x5 x6)) 0), k0_pay306) 14 := by
  unfold kernelRun0_A.sl.r_192 kernelRun0_A.sl.r_193
  refine (st_eq c arg0 harg0 arg1 harg1 arg2 harg2 arg3 harg3 arg4 harg4 arg5 harg5 arg6 harg6 arg7 harg7 arg8 harg8
    _ _ _ _ _ _ _ _ _ _ trips_eq.le).trans ?_
  rw [trips_eq, HS_eq c arg0 harg0 arg1 harg1 arg2 harg2 arg3 harg3 arg4 harg4 arg5 harg5 arg6 harg6 x0 x1 x2 x3 x4 x5 x6]
  refine congrArg (fun z => iter _ _ (k0_pay305 _ z, _) 14) ?_
  unfold kernelRun0_A.sl.v1578 View.readCov
  rw [HS_eq c arg0 harg0 arg1 harg1 arg2 harg2 arg3 harg3 arg4 harg4 arg5 harg5 arg6 harg6 x0 x1 x2 x3 x4 x5 x6]
  exact readAt_row arg8 _ 0 (by omega) _ rfl _

theorem hz : (![0, 0] : Fin 2 → ℕ) = fun _ => 0 := by funext a; fin_cases a <;> rfl

theorem out_eq : out0_A_7 c arg0 harg0 arg1 harg1 arg2 harg2 arg3 harg3 arg4 harg4 arg5 harg5 arg6 harg6 arg7 harg7 arg8 harg8 x0 x1 x2 x3 x4 x5 x6
    = kres (ldA arg0 harg0 arg1 harg1 arg2 harg2 arg3 harg3 arg4 harg4 arg5 harg5 arg6 harg6 x0 x1 x2 x3 x4 x5 x6)
      (wts arg8 (ldA arg0 harg0 arg1 harg1 arg2 harg2 arg3 harg3 arg4 harg4 arg5 harg5 arg6 harg6 x0 x1 x2 x3 x4 x5 x6)) := by
  unfold out0_A_7
  rw [View.read_writes_eq_canon _ _ _ (cover0_A_7 c arg0 harg0 arg1 harg1 arg2 harg2 arg3 harg3 arg4 harg4 arg5 harg5 arg6 harg6 arg7 harg7 arg8 harg8 x0 x1 x2 x3 x4 x5 x6)]
  unfold kernelRun0_A
  dsimp only
  rw [View.canon_unit_zero hz, r232_eq]
  have h := loop_eq c arg0 harg0 arg1 harg1 arg2 harg2 arg3 harg3 arg4 harg4 arg5 harg5 arg6 harg6 arg7 harg7 arg8 harg8 x0 x1 x2 x3 x4 x5 x6
  unfold kres
  rw [← h]

end
end Cert.Proof.Crf
end
-- ==== Proof.Crf.Reals.lean ====
module
public import Idealize.ShloMosaic.Lib.Pointwise
public import Mathlib.Analysis.SpecialFunctions.Log.Basic
public import Mathlib.Data.EReal.Operations
public import Mathlib.Algebra.BigOperators.Fin
public import Mathlib.Tactic.FieldSimp
public import Mathlib.Tactic.Ring
@[expose] public section

/-! The forward recursion over the reals: its scaled form and its cut into segments. -/

noncomputable section
namespace Cert.Proof.Crf
open scoped BigOperators

/-- The inputs as real functions of time, batch and label. -/
structure Inp where
  x : ℕ → Fin 8 → Fin 32 → ℝ
  tag : ℕ → Fin 8 → Fin 32
  a : Fin 32 → Fin 32 → ℝ
  st : Fin 32 → ℝ
  en : Fin 32 → ℝ

/-- The largest entry of a row. -/
def mx (f : Fin 32 → ℝ) : ℝ := Finset.univ.sup' Finset.univ_nonempty f

theorem mx_pos {f : Fin 32 → ℝ} (h : ∀ j, 0 < f j) : 0 < mx f :=
  (Finset.lt_sup'_iff _).2 ⟨0, Finset.mem_univ _, h 0⟩

namespace Inp
variable (p : Inp) (tm : ℝ)

/-- The emission with the start and the end scores. -/
def g (t : ℕ) (b : Fin 8) (j : Fin 32) : ℝ :=
  p.x t b j + (if t = 0 then p.st j else 0) + (if t = 2047 then p.en j else 0)

def gm (t : ℕ) (b : Fin 8) : ℝ := mx (p.g t b)

def E (i j : Fin 32) : ℝ := Real.exp (p.a i j - tm)

def W (t : ℕ) (b : Fin 8) (j : Fin 32) : ℝ := Real.exp (p.g t b j - p.gm t b)

/-- The forward sums. -/
def al (b : Fin 8) : ℕ → Fin 32 → ℝ
  | 0 => fun j => Real.exp (p.g 0 b j)
  | t + 1 => fun j => (∑ i, al b t i * Real.exp (p.a i j)) * Real.exp (p.g (t + 1) b j)

/-- The scaled forward sums. -/
def be (b : Fin 8) : ℕ → Fin 32 → ℝ
  | 0 => fun j => p.W 0 b j
  | t + 1 => fun j => (∑ i, be b t i * p.E tm i j) * p.W (t + 1) b j

/-- The product of `n + 1` scaled transfer matrices from time `t` on. -/
def Q (b : Fin 8) (t : ℕ) : ℕ → Fin 32 → Fin 32 → ℝ
  | 0 => fun i j => p.E tm i j * p.W t b j
  | n + 1 => fun i j => (∑ l, Q b t n i l * p.E tm l j) * p.W (t + n + 1) b j

theorem E_pos (i j : Fin 32) : 0 < p.E tm i j := Real.exp_pos _
theorem W_pos (t : ℕ) (b : Fin 8) (j : Fin 32) : 0 < p.W t b j := Real.exp_pos _

theorem sum_pos' {f : Fin 32 → ℝ} (h : ∀ j, 0 < f j) : 0 < ∑ j, f j :=
  Finset.sum_pos (fun j _ => h j) Finset.univ_nonempty

theorem al_pos (b : Fin 8) (t : ℕ) : ∀ j, 0 < p.al b t j := by
  induction t with
  | zero => exact fun j => Real.exp_pos _
  | succ t ih => exact fun j => mul_pos (sum_pos' fun i => mul_pos (ih i) (Real.exp_pos _)) (Real.exp_pos _)

theorem al_eq (b : Fin 8) (t : ℕ) (j : Fin 32) :
    p.al b t j = p.be tm b t j * Real.exp ((∑ s ∈ Finset.range (t + 1), p.gm s b) + t * tm) := by
  induction t generalizing j with
  | zero =>
    simp only [al, be, W, Finset.range_one, Finset.sum_singleton, Nat.cast_zero, zero_mul, add_zero, zero_add,
      ← Real.exp_add]
    congr 1; ring
  | succ t ih =>
    simp only [al, be]
    rw [Finset.sum_range_succ _ (t + 1), Finset.sum_congr rfl fun i _ => by rw [ih i]]
    rw [show ∀ A B : ℝ, A + B + ((t + 1 : ℕ) : ℝ) * tm = (A + t * tm) + (tm + B) by intro A B; push_cast; ring]
    generalize (∑ s ∈ Finset.range (t + 1), p.gm s b) + t * tm = S
    rw [W, Real.exp_sub, Real.exp_add S, Real.exp_add tm]
    have h1 : ∀ i, p.be tm b t i * Real.exp S * Real.exp (p.a i j)
        = (p.be tm b t i * p.E tm i j) * (Real.exp S * Real.exp tm) := by
      intro i
      rw [E, Real.exp_sub]
      have := (Real.exp_pos tm).ne'
      field_simp
    rw [Finset.sum_congr rfl fun i _ => h1 i, ← Finset.sum_mul]
    have := (Real.exp_pos (p.gm (t + 1) b)).ne'
    field_simp

theorem be_seg (b : Fin 8) (t n : ℕ) (j : Fin 32) :
    p.be tm b (t + 1 + n) j = ∑ i, p.be tm b t i * p.Q tm b (t + 1) n i j := by
  induction n generalizing j with
  | zero =>
    simp only [Nat.add_zero, be, Q, Finset.sum_mul]
    exact Finset.sum_congr rfl fun i _ => by ring
  | succ n ih =>
    rw [show t + 1 + (n + 1) = t + 1 + n + 1 from rfl]
    simp only [be, Q]
    rw [Finset.sum_congr rfl fun i _ => by rw [ih i]]
    simp only [Finset.sum_mul, Finset.mul_sum]
    rw [Finset.sum_comm]
    exact Finset.sum_congr rfl fun i _ => Finset.sum_congr rfl fun l _ => by ring

/-- A path's score at time `t`. -/
def sc (t : ℕ) (b : Fin 8) : ℝ :=
  p.g t b (p.tag t b) + (if t = 0 then 0 else p.a (p.tag (t - 1) b) (p.tag t b))

/-- The paths' scores, summed. -/
def num : ℝ := ∑ t ∈ Finset.range 2048, ∑ b, p.sc t b

/-- A batch's log-partition. -/
def den (b : Fin 8) : ℝ := Real.log (∑ j, p.al b 2047 j)

/-- The result. -/
def out : ℝ := 8 * p.num - ∑ b, p.den b

end Inp

/-- Columns of a packed row. -/
def C (m : Fin 4) (j : Fin 32) : Fin 128 := ⟨32 * m.val + j.val, by omega⟩
/-- Batches of a half. -/
def B (h : Fin 2) (m : Fin 4) : Fin 8 := ⟨4 * h.val + m.val, by omega⟩

theorem C_surj (c : Fin 128) : ∃ m j, c = C m j :=
  ⟨⟨c.val / 32, by omega⟩, ⟨c.val % 32, by omega⟩, Fin.ext (by simp only [C]; omega)⟩
theorem B_surj (b : Fin 8) : ∃ h m, b = B h m :=
  ⟨⟨b.val / 4, by omega⟩, ⟨b.val % 4, by omega⟩, Fin.ext (by simp only [B]; omega)⟩

theorem sum_C {M : Type*} [AddCommMonoid M] (f : Fin 128 → M) : ∑ c, f c = ∑ m, ∑ j, f (C m j) := by
  rw [← Fintype.sum_prod_type' (fun m j => f (C m j))]
  exact (Fintype.sum_equiv (finProdFinEquiv (m := 4) (n := 32)) _ _ fun q => congrArg f (Fin.ext (by
    simp only [C, finProdFinEquiv_apply_val]; omega))).symm

theorem sum_B {M : Type*} [AddCommMonoid M] (f : Fin 8 → M) : ∑ b, f b = ∑ h, ∑ m, f (B h m) := by
  rw [← Fintype.sum_prod_type' (fun h m => f (B h m))]
  exact (Fintype.sum_equiv (finProdFinEquiv (m := 2) (n := 4)) _ _ fun q => congrArg f (Fin.ext (by
    simp only [B, finProdFinEquiv_apply_val]; omega))).symm

theorem coe_sum {ι : Type*} (s : Finset ι) (f : ι → ℝ) : ((∑ i ∈ s, f i : ℝ) : EReal) = ∑ i ∈ s, ((f i : ℝ) : EReal) :=
  map_sum (⟨⟨Real.toEReal, EReal.coe_zero⟩, EReal.coe_add⟩ : ℝ →+ EReal) f s

theorem fold_max_coe {ι : Type*} [Fintype ι] [Nonempty ι] (f : ι → ℝ) :
    (Finset.univ : Finset ι).fold max (⊥ : EReal) (fun k => ((f k : ℝ) : EReal))
      = ((Finset.univ.sup' Finset.univ_nonempty f : ℝ) : EReal) := by
  rw [Finset.comp_sup'_eq_sup'_comp Finset.univ_nonempty (fun r : ℝ => (r : EReal)) (fun x y => EReal.coe_strictMono.monotone.map_max),
    Finset.sup'_eq_sup]
  rfl

theorem mx_coe (f : Fin 32 → ℝ) :
    (Finset.univ : Finset (Fin 32)).fold max (⊥ : EReal) (fun k => ((f k : ℝ) : EReal)) = ((mx f : ℝ) : EReal) := fold_max_coe f

end Cert.Proof.Crf
end
-- ==== Proof.Crf.Consts.lean ====
module
public import proofs.«01_k».proof.Proof.Crf.KernelTerm
public import proofs.«01_k».proof.Proof.Crf.Reals
@[expose] public section

/-! The kernel's constants: literals, lane selectors and the block mask. -/

noncomputable section
namespace Cert.Proof.Crf
open Cert.KernelIdeal Cert.KernelIdeal.Gen
open Idealize.ShloMosaic Idealize.SL.Sem
open scoped BigOperators

theorem ofBits_ninf : (Ideal.ofBits .f32 4286578688#32 : EReal) = ⊥ := by simp [Ideal.ofBits, Ideal.ieee]
theorem ofBits_zero : (Ideal.ofBits .f32 0#32 : EReal) = 0 := by simp [Ideal.ofBits, Ideal.ieee]
theorem ofBits_one : (Ideal.ofBits .f32 1065353216#32 : EReal) = ((1 : ℝ) : EReal) := by
  simp [Ideal.ofBits, Ideal.ieee, -EReal.coe_mul]; norm_num
theorem ofBits_8 : (Ideal.ofBits .f32 1090519040#32 : EReal) = ((8 : ℝ) : EReal) := by
  simp [Ideal.ofBits, Ideal.ieee, -EReal.coe_mul]; norm_num
theorem ofBits_2047 : (Ideal.ofBits .f32 1157619712#32 : EReal) = ((2047 : ℝ) : EReal) := by
  simp [Ideal.ofBits, Ideal.ieee, -EReal.coe_mul]; norm_num

/-- A one-bit word as a number. -/
theorem sitofp_ite (q : Prop) [Decidable q] :
    (FloatOps.sitofp .f32 (if q then 1#32 else 0#32) : Ideal .f32) = ((if q then 1 else 0 : ℝ) : EReal) := by
  change ((((if q then 1#32 else 0#32 : BitVec 32).toInt : ℤ) : ℝ) : EReal) = _
  split <;> norm_num

theorem sitofp_bit (q : Prop) [Decidable q] :
    (FloatOps.sitofp .f32 (BitVec.setWidth 32 (BitVec.ofBool (decide q))) : Ideal .f32)
      = ((if q then 1 else 0 : ℝ) : EReal) := by
  rw [← sitofp_ite]; congr 1; by_cases h : q <;> simp [h]

theorem sitofp_nat (n : ℕ) (h : n < 32) : (FloatOps.sitofp .f32 (BitVec.ofNat 32 n) : Ideal .f32) = ((n : ℝ) : EReal) := by
  change ((((BitVec.ofNat 32 n).toInt : ℤ) : ℝ) : EReal) = _
  rw [show (BitVec.ofNat 32 n).toInt = (n : ℤ) by
    rw [BitVec.toInt_eq_toNat_of_lt] <;> simp only [BitVec.toNat_ofNat] <;> omega]
  norm_num

theorem cmpi_nat (t j : Fin 32) :
    IntOp.cmpi .eq (BitVec.ofNat 32 t.val) (BitVec.ofNat 32 j.val) = BitVec.ofBool (decide (t = j)) := by
  revert t j; decide

theorem sel_eq (h : Fin 2) (b : Fin 8) (m : Fin 4) (j : Fin 32) :
    sel (F := Ideal) h (ix2 b (C m j)) = ((if b = B h m then 1 else 0 : ℝ) : EReal) := by
  rw [← sitofp_ite]
  have H : ∀ h, ∃ V : IVec S8x128 32, sel (F := Ideal) h = sitofp .f32 V ∧
      ∀ b m j, V (ix2 b (C m j)) = if b = B h m then 1#32 else 0#32 := by
    intro h; fin_cases h
    · exact ⟨_, rfl, by decide +kernel⟩
    · exact ⟨_, rfl, by decide +kernel⟩
  obtain ⟨V, h1, h2⟩ := H h
  rw [h1, ← h2 b m j]; rfl

theorem row_block (x : Fin 128) : k0_pay7 (ix2 x 0) = BitVec.ofNat 32 (x.val / 32) := by
  revert x; decide +kernel

theorem blk_at (x y : Fin 128) : blk (F := Ideal) (ix2 x y)
    = FloatOps.sitofp .f32 (BitVec.setWidth 32 (IntOp.cmpi .eq (BitVec.ofNat 32 (x.val / 32)) (BitVec.ofNat 32 (y.val / 32)))) := by
  unfold blk kernelRun0_A.sl.r_4 k0_pay10; pointwise
  have h7 : k0_pay7 (ix2 x y) = k0_pay7 (ix2 x 0) := by unfold k0_pay7; pointwise
  have h8 : k0_pay8 (ix2 x y) = k0_pay8 (ix2 0 y) := by unfold k0_pay8; pointwise
  have h9 : k0_pay9 (ix2 x y) = k0_pay9 (ix2 0 y) := by unfold k0_pay9; pointwise
  have hv : kernelRun0_A.sl.v10 (ix2 x y) = kernelRun0_A.sl.v10 (ix2 0 y) := by unfold kernelRun0_A.sl.v10; pointwise
  rw [h7, h8, h9, hv, row_block]
  congr 3
  clear h7 h8 h9 hv x
  revert y; decide +kernel

theorem blk_eq (m m' : Fin 4) (i j : Fin 32) :
    blk (F := Ideal) (ix2 (C m i) (C m' j)) = ((if m = m' then 1 else 0 : ℝ) : EReal) := by
  rw [blk_at, ← sitofp_bit]
  congr 2
  have hi : (C m i).val / 32 = m.val := by simp only [C]; omega
  have hj : (C m' j).val / 32 = m'.val := by simp only [C]; omega
  rw [hi, hj]
  clear hi hj
  revert m m'; decide

theorem lane_eq (l : Fin 127) (m : Fin 4) (j : Fin 32) :
    k0_pay27 (F := Ideal) (ix2 l (C m j)) = ((j.val : ℝ) : EReal) := by
  have H : ∃ V : IVec S127x128 32, k0_pay27 (F := Ideal) = sitofp .f32 V ∧ (∀ l c, V (ix2 l c) = V (ix2 0 c)) ∧
      ∀ m j, V (ix2 0 (C m j)) = BitVec.ofNat 32 j.val :=
    ⟨_, rfl, fun _ _ => rfl, by decide +kernel⟩
  obtain ⟨V, h1, h2, h3⟩ := H
  rw [h1, ← sitofp_nat j.val j.isLt, ← h3 m j, ← h2 l]; rfl

end Cert.Proof.Crf
end
-- ==== Proof.Crf.Readings.lean ====
module
public import proofs.«01_k».proof.Proof.Crf.Consts
@[expose] public section

/-! The kernel's constants and packed blocks, read over the reals. -/

noncomputable section
namespace Cert.Proof.Crf
open Cert.KernelIdeal Cert.KernelIdeal.Gen
open Idealize.ShloMosaic Idealize.SL.Sem
open scoped BigOperators

/-- The largest transition score. -/
def Inp.tm (p : Inp) : ℝ :=
  (Finset.univ : Finset (Fin 32 × Fin 32)).sup' Finset.univ_nonempty fun q => p.a q.1 q.2

/-- The loaded blocks hold the inputs. -/
structure Rd (d : Ld Ideal) (p : Inp) : Prop where
  tr : ∀ i j, d.tr (ix2 i j) = ((p.a i j : ℝ) : EReal)
  st : ∀ j, d.st (ix2 0 j) = ((p.st j : ℝ) : EReal)
  en : ∀ j, d.en (ix2 0 j) = ((p.en j : ℝ) : EReal)
  g0 : ∀ b j, d.g0 (ix3 0 b j) = ((p.x 0 b j : ℝ) : EReal)
  t0 : ∀ b, d.t0 (ix2 0 b) = BitVec.ofNat 32 (p.tag 0 b).val
  G : ∀ k (l : Fin 127) b j, d.G k (ix3 l b j) = ((p.x (1 + 127 * k.val + l.val) b j : ℝ) : EReal)
  P : ∀ h k (l : Fin 127) m j, d.P h k (ix2 l (C m j)) = ((p.x (1 + 127 * k.val + l.val) (B h m) j : ℝ) : EReal)
  TG : ∀ k (l : Fin 127) b, d.TG k (ix2 l b) = BitVec.ofNat 32 (p.tag (1 + 127 * k.val + l.val) b).val
  GT : ∀ (t : Fin 15) b j, d.GT (ix3 t b j) = ((p.x (2033 + t.val) b j : ℝ) : EReal)
  TT : ∀ (t : Fin 15) b, d.TT (ix2 t b) = BitVec.ofNat 32 (p.tag (2033 + t.val) b).val

/-- Four blocks side by side, read at a packed column. -/
theorem ladder4 {α : Type*} (m : Fin 4) (j : Fin 32) (f : Fin 4 → Fin 32 → α) :
    (if h : (C m j).val < 32 then f 0 ⟨(C m j).val, h⟩
      else if h1 : (C m j).val - 32 < 32 then f 1 ⟨(C m j).val - 32, h1⟩
      else if h2 : (C m j).val - 32 - 32 < 32 then f 2 ⟨(C m j).val - 32 - 32, h2⟩
      else f 3 ⟨(C m j).val - 32 - 32 - 32, by have := (C m j).isLt; omega⟩) = f m j := by
  have hj := j.isLt
  have e : ∀ m : Fin 4, (C m j).val = 32 * m.val + j.val := fun _ => rfl
  fin_cases m
  · rw [dif_pos (by rw [e]; change 32 * 0 + j.val < 32; omega)]
    exact congrArg (f 0) (Fin.ext (by change 32 * 0 + j.val = j.val; omega))
  · rw [dif_neg (by rw [e]; change ¬ 32 * 1 + j.val < 32; omega), dif_pos (by rw [e]; change 32 * 1 + j.val - 32 < 32; omega)]
    exact congrArg (f 1) (Fin.ext (by change 32 * 1 + j.val - 32 = j.val; omega))
  · rw [dif_neg (by rw [e]; change ¬ 32 * 2 + j.val < 32; omega), dif_neg (by rw [e]; change ¬ 32 * 2 + j.val - 32 < 32; omega),
      dif_pos (by rw [e]; change 32 * 2 + j.val - 32 - 32 < 32; omega)]
    exact congrArg (f 2) (Fin.ext (by change 32 * 2 + j.val - 32 - 32 = j.val; omega))
  · rw [dif_neg (by rw [e]; change ¬ 32 * 3 + j.val < 32; omega), dif_neg (by rw [e]; change ¬ 32 * 3 + j.val - 32 < 32; omega),
      dif_neg (by rw [e]; change ¬ 32 * 3 + j.val - 32 - 32 < 32; omega)]
    exact congrArg (f 3) (Fin.ext (by change 32 * 3 + j.val - 32 - 32 - 32 = j.val; omega))

theorem tm_eq {d : Ld Ideal} {p : Inp} (H : Rd d p) : k0_pay4 d.tr = ((p.tm : ℝ) : EReal) := by
  unfold k0_pay4; pointwise
  simp only [H.tr, ofBits_ninf]
  exact fold_max_coe fun q : Fin 32 × Fin 32 => p.a q.1 q.2

theorem E_eq {d : Ld Ideal} {p : Inp} (H : Rd d p) (i j : Fin 32) :
    k0_pay5 d.tr (ix2 i j) = ((p.E p.tm i j : ℝ) : EReal) := by
  unfold k0_pay5; pointwise
  rw [tm_eq H, H.tr, ← EReal.coe_sub]; rfl

theorem Et_eq {d : Ld Ideal} {p : Inp} (H : Rd d p) (i : Fin 32) (m : Fin 4) (j : Fin 32) :
    Et d.tr (ix2 i (C m j)) = ((p.E p.tm i j : ℝ) : EReal) := by
  rw [← E_eq H]; unfold Et k0_pay6; pointwise
  exact ladder4 m j fun _ j => k0_pay5 d.tr (ix2 i j)

theorem BD_eq {d : Ld Ideal} {p : Inp} (H : Rd d p) (m : Fin 4) (i : Fin 32) (m' : Fin 4) (j : Fin 32) :
    BD d.tr (ix2 (C m i) (C m' j)) = ((if m = m' then p.E p.tm i j else 0 : ℝ) : EReal) := by
  unfold BD; pointwise
  rw [(ladder4 m i fun _ i => Et d.tr (ix2 i (C m' j)) : _), Et_eq H, blk_eq, ← EReal.coe_mul, ite_mul, one_mul, zero_mul]

theorem BT_eq {d : Ld Ideal} {p : Inp} (H : Rd d p) (m : Fin 4) (i : Fin 32) (m' : Fin 4) (j : Fin 32) :
    BT d.tr (ix2 (C m i) (C m' j)) = ((if m = m' then p.a i j else 0 : ℝ) : EReal) := by
  have hr : ∀ j', tr4 d.tr (ix2 (C m i) j') = d.tr (ix2 i j') := by
    intro j'; unfold tr4; pointwise
    exact ladder4 m i fun _ i => d.tr (ix2 i j')
  unfold BT; pointwise
  rw [(ladder4 m' j fun _ j' => tr4 d.tr (ix2 (C m i) j') : _), hr, H.tr, blk_eq, ← EReal.coe_mul, ite_mul, one_mul,
    zero_mul]

theorem BTlo_eq {d : Ld Ideal} {p : Inp} (H : Rd d p) (m : Fin 4) (i : Fin 32) (m' : Fin 4) (j : Fin 32) :
    BTlo d.tr (ix2 (C m i) (C m' j)) = ((0 : ℝ) : EReal) := by
  unfold BTlo BThi; pointwise
  rw [BT_eq H, ← EReal.coe_sub, sub_self]

/-- A product with a selector picks a column. -/
theorem sum_sel (h : Fin 2) (m : Fin 4) (j : Fin 32) (f : Fin 8 → EReal) (r : Fin 8 → ℝ) (hf : ∀ b, f b = ((r b : ℝ) : EReal)) :
    ∑ b, f b * sel (F := Ideal) h (ix2 b (C m j)) = ((r (B h m) : ℝ) : EReal) := by
  simp only [hf, sel_eq, ← EReal.coe_mul, ← coe_sum, mul_ite, mul_one, mul_zero, Finset.sum_ite_eq', Finset.mem_univ, if_true]

theorem oh_eq {d : Ld Ideal} {p : Inp} (H : Rd d p) (h : Fin 2) (k : Fin 16) (l : Fin 127) (m : Fin 4) (j : Fin 32) :
    oh h (d.TG k) (ix2 l (C m j)) = ((if p.tag (1 + 127 * k.val + l.val) (B h m) = j then 1 else 0 : ℝ) : EReal) := by
  unfold oh k0_pay42 k0_pay32; pointwise
  rw [sum_sel h m j _ (fun b => ((p.tag (1 + 127 * k.val + l.val) b).val : ℝ)) fun b => by rw [H.TG, sitofp_nat _ (Fin.isLt _)]]
  rw [lane_eq]
  rw [sitofp_bit]
  congr 2
  simp only [EReal.coe_eq_coe_iff, Nat.cast_inj, Fin.ext_iff]

theorem rp_eq {d : Ld Ideal} {p : Inp} (H : Rd d p) (h : Fin 2) (k : Fin 16) (l : Fin 127) (m : Fin 4) (j : Fin 32) :
    rp d.tr h (d.TG k) (ix2 l (C m j)) = ((p.a (p.tag (1 + 127 * k.val + l.val) (B h m)) j : ℝ) : EReal) := by
  have hh : ∀ x, BThi d.tr x = BT d.tr x := fun _ => rfl
  unfold rp; pointwise
  simp only [hh, sum_C, oh_eq H, BT_eq H, BTlo_eq H, ← EReal.coe_mul, ← coe_sum, ← EReal.coe_add]
  congr 1
  simp [Finset.sum_ite_eq]

theorem G_max {d : Ld Ideal} {p : Inp} (H : Rd d p) (k : Fin 16) (l : Fin 127) (b : Fin 8) :
    k0_pay30 (d.G k) (ix2 l b) = ((p.gm (1 + 127 * k.val + l.val) b : ℝ) : EReal) := by
  unfold k0_pay30; pointwise
  simp only [H.G, ofBits_ninf]
  refine (mx_coe _).trans ?_
  unfold Inp.gm Inp.g
  have h0 : 1 + 127 * k.val + l.val ≠ 0 := by omega
  have h1 : 1 + 127 * k.val + l.val ≠ 2047 := by have := k.isLt; have := l.isLt; omega
  simp only [if_neg h0, if_neg h1, add_zero]

theorem slot_eq {d : Ld Ideal} {p : Inp} (H : Rd d p) (k : Fin 16) (h : Fin 2) (l : Fin 127) (m : Fin 4) (j : Fin 32) :
    slot d k h (ix3 l 0 (C m j)) = ((p.W (1 + 127 * k.val + l.val) (B h m) j : ℝ) : EReal) := by
  unfold slot k0_pay41 k0_pay40; pointwise
  rw [sum_sel h m j _ _ fun b => G_max H k l b, H.P, ← EReal.coe_sub]
  unfold Inp.W Inp.g
  have h0 : 1 + 127 * k.val + l.val ≠ 0 := by omega
  have h1 : 1 + 127 * k.val + l.val ≠ 2047 := by have := k.isLt; have := l.isLt; omega
  simp only [if_neg h0, if_neg h1, add_zero]
  rfl

/-! The first row and the tail. -/

theorem g0_eq {d : Ld Ideal} {p : Inp} (H : Rd d p) (b : Fin 8) (j : Fin 32) :
    k0_pay16 d.st d.g0 (ix2 b j) = ((p.g 0 b j : ℝ) : EReal) := by
  unfold k0_pay16; pointwise
  rw [H.g0, H.st, ← EReal.coe_add]
  simp [Inp.g]

theorem gm0_eq {d : Ld Ideal} {p : Inp} (H : Rd d p) (b : Fin 8) :
    k0_pay17 d.st d.g0 (ix2 b 0) = ((p.gm 0 b : ℝ) : EReal) := by
  unfold k0_pay17; pointwise
  simp only [g0_eq H, ofBits_ninf]
  exact mx_coe _

theorem W0_eq {d : Ld Ideal} {p : Inp} (H : Rd d p) (b : Fin 8) (j : Fin 32) :
    k0_pay18 d.st d.g0 (ix2 b j) = ((p.W 0 b j : ℝ) : EReal) := by
  unfold k0_pay18; pointwise
  rw [g0_eq H, gm0_eq H, ← EReal.coe_sub]; rfl

theorem oh0_eq {d : Ld Ideal} {p : Inp} (H : Rd d p) (b : Fin 8) (j : Fin 32) :
    k0_pay20 (F := Ideal) (ohA d) (ix2 b j) = ((if p.tag 0 b = j then 1 else 0 : ℝ) : EReal) := by
  unfold k0_pay20 ohA k0_pay19; pointwise
  rw [H.t0, cmpi_nat, sitofp_bit]

theorem num0_eq {d : Ld Ideal} {p : Inp} (H : Rd d p) :
    k0_pay21 (g0 d) (ohA d) = ((∑ b, p.sc 0 b : ℝ) : EReal) := by
  unfold k0_pay21; pointwise
  have hg : ∀ x, g0 d x = k0_pay16 d.st d.g0 x := fun _ => rfl
  simp only [hg, g0_eq H, oh0_eq H, ← EReal.coe_mul, ← coe_sum]
  congr 1
  simp [Inp.sc]

theorem prev0_eq {d : Ld Ideal} {p : Inp} (H : Rd d p) (h : Fin 2) (m : Fin 4) (j : Fin 32) :
    (seg0 d).prev h (ix2 0 (C m j)) = ((p.a (p.tag 0 (B h m)) j : ℝ) : EReal) := by
  have hq : ∀ b j, k0_pay22 d.tr (ohA d) (ix2 b j) = ((p.a (p.tag 0 b) j : ℝ) : EReal) := by
    intro b j
    unfold k0_pay22; pointwise
    simp only [oh0_eq H, H.tr, ← EReal.coe_mul, ← coe_sum]
    congr 1; simp
  rw [← hq]
  fin_cases h
  · change k0_pay28 (k0_pay22 d.tr (ohA d)) (ix2 0 (C m j)) = _
    unfold k0_pay28; pointwise
    exact ladder4 m j fun m j => k0_pay22 d.tr (ohA d) (ix2 (B 0 m) j)
  · change k0_pay29 (k0_pay22 d.tr (ohA d)) (ix2 0 (C m j)) = _
    unfold k0_pay29; pointwise
    exact ladder4 m j fun m j => k0_pay22 d.tr (ohA d) (ix2 (B 1 m) j)

theorem gT_eq {d : Ld Ideal} {p : Inp} (H : Rd d p) (t : Fin 15) (b : Fin 8) (j : Fin 32) :
    k0_pay297 d.en d.GT (ix3 t b j) = ((p.g (2033 + t.val) b j : ℝ) : EReal) := by
  unfold k0_pay297; pointwise
  rw [H.GT, H.en]
  have h : ∀ t : Fin 15, IntOp.cmpi .eq (BitVec.ofNat 32 t.val) 14#32 = BitVec.ofBool (decide (2033 + t.val = 2047)) := by decide
  rw [h t]
  unfold Inp.g
  have h0 : 2033 + t.val ≠ 0 := by omega
  by_cases h1 : 2033 + t.val = 2047
  · simp [h1, Scalar.select]
  · simp [h1, Scalar.select]

theorem gmT_eq {d : Ld Ideal} {p : Inp} (H : Rd d p) (t : Fin 15) (b : Fin 8) :
    k0_pay298 d.en d.GT (ix3 t b 0) = ((p.gm (2033 + t.val) b : ℝ) : EReal) := by
  unfold k0_pay298; pointwise
  simp only [gT_eq H, ofBits_ninf]
  exact mx_coe _

theorem WT_eq {d : Ld Ideal} {p : Inp} (H : Rd d p) (t : Fin 15) (b : Fin 8) (j : Fin 32) :
    k0_pay300 d.en d.GT (ix3 t b j) = ((p.W (2033 + t.val) b j : ℝ) : EReal) := by
  unfold k0_pay300; pointwise
  rw [gT_eq H, gmT_eq H, ← EReal.coe_sub]; rfl

theorem ohT_eq {d : Ld Ideal} {p : Inp} (H : Rd d p) (t : Fin 15) (b : Fin 8) (j : Fin 32) :
    oht d (ix3 t b j) = ((if p.tag (2033 + t.val) b = j then 1 else 0 : ℝ) : EReal) := by
  unfold oht k0_pay301 kernelRun0_A.sl.v75; pointwise
  rw [H.TT, cmpi_nat, sitofp_bit]

end Cert.Proof.Crf
end
-- ==== Proof.Crf.Score.lean ====
module
public import proofs.«01_k».proof.Proof.Crf.Readings
@[expose] public section

/-! The score of the paths and the sums of the emission maxima. -/

noncomputable section
namespace Cert.Proof.Crf
open Cert.KernelIdeal Cert.KernelIdeal.Gen
open Idealize.ShloMosaic Idealize.SL.Sem
open scoped BigOperators

theorem half_eq (num : ℝ) (o r gp : FVec Ideal S127x128 .f32) (prev : FVec Ideal S1x128 .f32)
    (T : Fin 127 → Fin 4 → Fin 32) (X R : Fin 127 → Fin 4 → Fin 32 → ℝ) (Pv : Fin 4 → Fin 32 → ℝ)
    (ho : ∀ l m j, o (ix2 l (C m j)) = ((if T l m = j then 1 else 0 : ℝ) : EReal))
    (hg : ∀ l m j, gp (ix2 l (C m j)) = ((X l m j : ℝ) : EReal))
    (hr : ∀ l m j, r (ix2 l (C m j)) = ((R l m j : ℝ) : EReal))
    (hp : ∀ m j, prev (ix2 0 (C m j)) = ((Pv m j : ℝ) : EReal)) :
    halfNum ((num : ℝ) : EReal) o r gp prev = ((num + ∑ l, ∑ m, X l m (T l m)
      + ∑ l : Fin 126, ∑ m, R ⟨l.val, by omega⟩ m (T ⟨1 + l.val, by omega⟩ m) + ∑ m, Pv m (T 0 m) : ℝ) : EReal) := by
  unfold halfNum tot; pointwise
  simp only [sum_C, ho, hg, hr, hp, ← EReal.coe_mul, ← coe_sum, ← EReal.coe_add]
  congr 1
  simp only [ite_mul, one_mul, zero_mul, Finset.sum_ite_eq, Finset.mem_univ, if_true]
  refine congrArg₂ (· + ·) (congrArg₂ (· + ·) rfl (Finset.sum_congr rfl fun x _ => Finset.sum_congr rfl fun m _ => ?_)) (by simp)
  exact (Finset.sum_eq_single (T ⟨1 + x.val, by omega⟩ m) (fun j _ hj => if_neg (Ne.symm hj))
    (fun h => absurd (Finset.mem_univ _) h)).trans (if_pos rfl)

/-- What the segment loop carries after `n` segments. -/
structure SegI (p : Inp) (s : Seg Ideal) (n : ℕ) : Prop where
  gms : ∀ b, s.gms (ix2 b 0) = ((∑ t ∈ Finset.range (1 + 127 * n), p.gm t b : ℝ) : EReal)
  num : s.num = ((∑ t ∈ Finset.range (1 + 127 * n), ∑ b, p.sc t b : ℝ) : EReal)
  prev : ∀ h m j, s.prev h (ix2 0 (C m j)) = ((p.a (p.tag (127 * n) (B h m)) j : ℝ) : EReal)

/-- A segment's scores from a half's sums. -/
theorem half_sc (p : Inp) (k : Fin 16) (h : Fin 2) :
    ∑ l : Fin 127, ∑ m, p.sc (1 + 127 * k.val + l.val) (B h m)
      = (∑ l : Fin 127, ∑ m, p.x (1 + 127 * k.val + l.val) (B h m) (p.tag (1 + 127 * k.val + l.val) (B h m)))
        + ∑ l : Fin 126, ∑ m, p.a (p.tag (1 + 127 * k.val + l.val) (B h m)) (p.tag (1 + 127 * k.val + (1 + l.val)) (B h m))
        + ∑ m, p.a (p.tag (127 * k.val) (B h m)) (p.tag (1 + 127 * k.val + 0) (B h m)) := by
  have e : ∀ (l : Fin 127) b, p.sc (1 + 127 * k.val + l.val) b
      = p.x (1 + 127 * k.val + l.val) b (p.tag (1 + 127 * k.val + l.val) b)
        + p.a (p.tag (127 * k.val + l.val) b) (p.tag (1 + 127 * k.val + l.val) b) := by
    intro l b
    unfold Inp.sc Inp.g
    rw [if_neg (by omega), if_neg (by omega), if_neg (by omega),
      show 1 + 127 * k.val + l.val - 1 = 127 * k.val + l.val by omega, add_zero, add_zero]
  simp only [e, Finset.sum_add_distrib]
  rw [add_assoc]
  congr 1
  rw [Fin.sum_univ_succ, add_comm]
  congr 1
  refine Finset.sum_congr rfl fun l _ => Finset.sum_congr rfl fun m _ => ?_
  simp only [Fin.val_succ]
  rw [show 127 * k.val + (l.val + 1) = 1 + 127 * k.val + l.val by omega,
    show 1 + 127 * k.val + (l.val + 1) = 1 + 127 * k.val + (1 + l.val) by omega]

theorem segStep_inv {d : Ld Ideal} {p : Inp} (H : Rd d p) (k : Fin 16) (s : Seg Ideal) (I : SegI p s k.val) :
    SegI p (segStep d k s) (k.val + 1) := by
  have e : 1 + 127 * (k.val + 1) = (1 + 127 * k.val) + 127 := by omega
  refine ⟨fun b => ?_, ?_, fun h m j => ?_⟩
  · unfold segStep k0_pay31; pointwise
    simp only [I.gms, G_max H, ← coe_sum, ← EReal.coe_add]
    rw [e, Finset.sum_range_add _ (1 + 127 * k.val) 127, Finset.sum_range (n := 127)]
  · have hp : ∀ h l m j, k0_pay33 (d.P h k) (ix2 l (C m j)) = ((p.x (1 + 127 * k.val + l.val) (B h m) j : ℝ) : EReal) := by
      intro h l m j; rw [← H.P]; unfold k0_pay33; pointwise
    change halfNum (halfNum s.num (oh 0 (d.TG k)) (rp d.tr 0 (d.TG k)) (k0_pay33 (d.P 0 k)) (s.prev 0))
      (oh 1 (d.TG k)) (rp d.tr 1 (d.TG k)) (k0_pay33 (d.P 1 k)) (s.prev 1) = _
    rw [I.num, half_eq _ _ _ _ _ _ _ _ _ (oh_eq H 0 k) (hp 0) (rp_eq H 0 k) (I.prev 0),
      half_eq _ _ _ _ _ _ _ _ _ (oh_eq H 1 k) (hp 1) (rp_eq H 1 k) (I.prev 1)]
    congr 1
    rw [e, Finset.sum_range_add _ (1 + 127 * k.val) 127, Finset.sum_range (n := 127)]
    have hs : ∀ t, ∑ b, p.sc t b = ∑ m, p.sc t (B 0 m) + ∑ m, p.sc t (B 1 m) := fun t => by
      rw [sum_B, Fin.sum_univ_two]
    simp only [hs (1 + 127 * k.val + _), Finset.sum_add_distrib (s := (Finset.univ : Finset (Fin 127)))]
    rw [half_sc p k 0, half_sc p k 1]
    simp only [Fin.val_zero]
    ring
  · unfold segStep; pointwise
    rw [rp_eq H]
    rw [show 1 + 127 * k.val + (126 : Fin 127).val = 127 * (k.val + 1) by change 1 + 127 * k.val + 126 = _; omega]

theorem segs_inv {d : Ld Ideal} {p : Inp} (H : Rd d p) (n : ℕ) (hn : n ≤ 16) : SegI p (segs d n) n := by
  induction n with
  | zero =>
    exact ⟨fun b => (gm0_eq H b).trans (by simp), (num0_eq H).trans (by simp), fun h m j => prev0_eq H h m j⟩
  | succ n ih =>
    have e : (Fin.ofNat 16 n).val = n := Nat.mod_eq_of_lt (by omega)
    have := segStep_inv H (Fin.ofNat 16 n) (segs d n) (by rw [e]; exact ih (by omega))
    rw [e] at this
    exact this

theorem prevR_eq {p : Inp} {s : Seg Ideal} {n : ℕ} (I : SegI p s n) (b : Fin 8) (j : Fin 32) :
    prevR s (ix2 b j) = ((p.a (p.tag (127 * n) b) j : ℝ) : EReal) := by
  obtain ⟨h, m, rfl⟩ := B_surj b
  rw [← I.prev h m j]
  unfold prevR; pointwise
  have e : j.val = 32 * 0 + j.val := by omega
  fin_cases h <;> fin_cases m <;>
    first
    | rfl
    | exact congrArg (fun c => s.prev 0 (ix2 0 c)) (Fin.ext e)
    | exact congrArg (fun c => s.prev 1 (ix2 0 c)) (Fin.ext e)

theorem gmsF_eq {d : Ld Ideal} {p : Inp} (H : Rd d p) (b : Fin 8) :
    gmsF d (ix2 b 0) = ((∑ t ∈ Finset.range 2048, p.gm t b : ℝ) : EReal) := by
  unfold gmsF k0_pay299; pointwise
  simp only [(segs_inv H 16 le_rfl).gms, gmT_eq H, ← coe_sum, ← EReal.coe_add]
  rw [show 2048 = (1 + 127 * 16) + 15 by rfl, Finset.sum_range_add _ (1 + 127 * 16) 15, Finset.sum_range (n := 15)]

/-- A sum over three axes, read at its one index. -/
theorem reduce3 {a b c : ℕ} (h : (⟨4, ![1, a, b, c]⟩ : Shape).Reduces [1, 2, 3] S1)
    (v : (⟨4, ![1, a, b, c]⟩ : Shape).Idx → EReal) (i : S1.Idx) :
    Ideal.reduceAdd h v i = ∑ x : Fin a, ∑ y : Fin b, ∑ z : Fin c, v (ix4 0 x y z) := by
  refine (Finset.sum_filter_eq_sum_of_fiber _ (fun k : Fin a × Fin b × Fin c => (ix4 0 k.1 k.2.1 k.2.2 : (⟨4, ![1, a, b, c]⟩ : Shape).Idx))
    (fun _ _ e => Prod.ext (congrFun e 1) (Prod.ext (congrFun e 2) (congrFun e 3))) (fun q => ?_) v).trans ?_
  · refine ⟨fun _ => ⟨(q 1, q 2, q 3), ?_⟩, fun _ => ?_⟩
    · funext z; apply Fin.ext
      match z with
      | ⟨0, _⟩ => have : (q 0).val < 1 := (q 0).isLt; change 0 = (q 0).val; omega
      | ⟨1, _⟩ => rfl
      | ⟨2, _⟩ => rfl
      | ⟨3, _⟩ => rfl
    · funext z; apply Fin.ext
      have h1 : (h.drop q z).val < 1 := by
        have := (h.drop q z).isLt; have e : S1.size z = 1 := by fin_cases z; rfl
        omega
      have h2 : (i z).val < 1 := by
        have := (i z).isLt; have e : S1.size z = 1 := by fin_cases z; rfl
        omega
      omega
  · simp only [Fintype.sum_prod_type]

theorem numF_eq {d : Ld Ideal} {p : Inp} (H : Rd d p) : numF d = ((p.num : ℝ) : EReal) := by
  have ho : ∀ x, k0_pay301 (F := Ideal) kernelRun0_A.sl.v75 d.TT x = oht d x := fun _ => rfl
  have I := segs_inv H 16 le_rfl
  unfold numF k0_pay304 k0_pay303 k0_pay302; pointwise
  rw [reduce3, reduce3]
  pointwise
  simp only [ho, ohT_eq H, gT_eq H, I.num, prevR_eq I, H.tr, ← coe_sum, ← EReal.coe_mul, ← EReal.coe_add]
  congr 1
  unfold Inp.num
  rw [show 2048 = (1 + 127 * 16) + 15 by rfl, Finset.sum_range_add _ (1 + 127 * 16) 15, Finset.sum_range (n := 15)]
  have e : ∀ (t : Fin 15) b, p.sc (1 + 127 * 16 + t.val) b
      = p.g (2033 + t.val) b (p.tag (2033 + t.val) b) + p.a (p.tag (2032 + t.val) b) (p.tag (2033 + t.val) b) := by
    intro t b
    unfold Inp.sc
    rw [if_neg (by omega), show 1 + 127 * 16 + t.val = 2033 + t.val by omega,
      show 2033 + t.val - 1 = 2032 + t.val by omega]
  have hd : ∀ (x : Fin 14) (y : Fin 8), (x.val * 8 + y.val) / 8 = x.val := fun x y => by omega
  simp only [e, hd, Finset.sum_add_distrib, ite_mul, one_mul, zero_mul, Finset.sum_ite_eq, Finset.mem_univ, if_true]
  rw [Fin.sum_univ_succ (n := 14) fun t => ∑ b, p.a (p.tag (2032 + t.val) b) (p.tag (2033 + t.val) b)]
  have h1 : ∑ i : Fin 14, ∑ b, p.a (p.tag (2032 + i.succ.val) b) (p.tag (2033 + i.succ.val) b)
      = ∑ i : Fin 14, ∑ b, p.a (p.tag (2033 + i.val) b) (p.tag (2033 + (1 + i.val)) b) :=
    Finset.sum_congr rfl fun i _ => Finset.sum_congr rfl fun b _ => by
      rw [Fin.val_succ, show 2032 + (i.val + 1) = 2033 + i.val by omega, show i.val + 1 = 1 + i.val by omega]
  rw [h1]
  simp only [Fin.val_zero, Nat.add_zero, show 127 * 16 = 2032 by rfl]
  ring

end Cert.Proof.Crf
end
-- ==== Proof.Crf.Denom.lean ====
module
public import proofs.«01_k».proof.Proof.Crf.Score
public import proofs.«01_k».proof.Proof.Crf.Loop
@[expose] public section

/-! The log-partition: the loop's normalised products, their chain, the tail. -/

noncomputable section
namespace Cert.Proof.Crf
open Cert.KernelIdeal Cert.KernelIdeal.Gen
open Idealize.ShloMosaic Idealize.SL.Sem
open scoped BigOperators

theorem log_pos_coe {r : ℝ} (h : 0 < r) : Ideal.log ((r : ℝ) : EReal) = ((Real.log r : ℝ) : EReal) := by
  rw [Ideal.log_coe, if_neg (not_le.2 h)]

/-- The first time of a group's segment. -/
def sT (g : Fin 32) : ℕ := 1 + 127 * (g.val / 2)
/-- A group's batch. -/
def sB (g : Fin 32) (m : Fin 4) : Fin 8 := B ⟨g.val % 2, by omega⟩ m

/-- The stored weights are the segments' weights. -/
def RdY (Y : Vec Ideal S127x32x128 .f32) (p : Inp) : Prop :=
  ∀ (l : Fin 127) g m j, Y (ix3 l g (C m j)) = ((p.W (sT g + l.val) (sB g m) j : ℝ) : EReal)

/-- A block of products holds the transfer matrices up to a factor per group and batch. -/
structure LI (p : Inp) (A : FVec Ideal S32x32x128 .f32) (L : Fin 32 → Fin 4 → ℝ) (q : ℕ)
    (M : Fin 32 → Fin 4 → Fin 32 → Fin 32 → ℝ) : Prop where
  rd : ∀ g i m j, A (ix3 g i (C m j)) = ((M g m i j : ℝ) : EReal)
  pos : ∀ g m i j, 0 < M g m i j
  eq : ∀ g m i j, M g m i j * Real.exp (L g m) = p.Q p.tm (sB g m) (sT g) q i j

theorem lstep_inv {d : Ld Ideal} {p : Inp} (H : Rd d p) {w : FVec Ideal S1x32x128 .f32} {A : FVec Ideal S32x32x128 .f32}
    {L : Fin 32 → Fin 4 → ℝ} {q : ℕ} (hw : ∀ g m j, w (ix3 0 g (C m j)) = ((p.W (sT g + q + 1) (sB g m) j : ℝ) : EReal))
    (I : ∃ M, LI p A L q M) : ∃ M, LI p (lstep (BD d.tr) w A) L (q + 1) M := by
  obtain ⟨M, I⟩ := I
  refine ⟨fun g m i j => (∑ l, M g m i l * p.E p.tm l j) * p.W (sT g + q + 1) (sB g m) j, fun g i m j => ?_,
    fun g m i j => mul_pos (Inp.sum_pos' fun l => mul_pos (I.pos _ _ _ _) (p.E_pos _ _ _)) (p.W_pos _ _ _), fun g m i j => ?_⟩
  · unfold lstep; pointwise
    simp only [sum_C, I.rd, BD_eq H, hw, ← EReal.coe_mul, ← coe_sum]
    congr 2
    refine (Finset.sum_eq_single m (fun m' _ hm => ?_) fun h => absurd (Finset.mem_univ _) h).trans ?_
    · simp [hm]
    · simp
  · rw [Inp.Q, mul_right_comm, Finset.sum_mul]
    congr 1
    refine Finset.sum_congr rfl fun l _ => ?_
    rw [← I.eq]; ring

theorem lsteps_inv {d : Ld Ideal} {p : Inp} (H : Rd d p) {w : ℕ → FVec Ideal S1x32x128 .f32} {A : FVec Ideal S32x32x128 .f32}
    {L : Fin 32 → Fin 4 → ℝ} {q : ℕ} (n : ℕ)
    (hw : ∀ i < n, ∀ g m j, w i (ix3 0 g (C m j)) = ((p.W (sT g + (q + i) + 1) (sB g m) j : ℝ) : EReal))
    (I : ∃ M, LI p A L q M) : ∃ M, LI p (lsteps (BD d.tr) w A n) L (q + n) M := by
  induction n with
  | zero => exact I
  | succ n ih => exact lstep_inv H (hw n (by omega)) (ih fun i hi => hw i (by omega))

theorem sb_eq {p : Inp} {A : FVec Ideal S32x32x128 .f32} {L : Fin 32 → Fin 4 → ℝ} {q : ℕ}
    {M : Fin 32 → Fin 4 → Fin 32 → Fin 32 → ℝ} (I : LI p A L q M) (g : Fin 32) (m : Fin 4) (j : Fin 32) :
    sb A (ix2 g (C m j)) = ((∑ l, ∑ i, M g m i l : ℝ) : EReal) := by
  unfold sb; pointwise
  simp only [sum_C, I.rd, blk_eq, ← EReal.coe_mul, ← coe_sum]
  congr 1
  refine (Finset.sum_eq_single m (fun m' _ hm => ?_) fun h => absurd (Finset.mem_univ _) h).trans ?_
  · simp [hm]
  · simp

/-- The loop's state after `k` trips. -/
def LoopI (p : Inp) (s : FVec Ideal S32x32x128 .f32 × FVec Ideal S32x128 .f32) (q : ℕ) (L : Fin 32 → Fin 4 → ℝ) : Prop :=
  (∃ M, LI p s.1 L q M) ∧ ∀ g m j, s.2 (ix2 g (C m j)) = ((L g m : ℝ) : EReal)

theorem trip_inv {d : Ld Ideal} {p : Inp} (H : Rd d p) {w : ℕ → FVec Ideal S1x32x128 .f32}
    {s : FVec Ideal S32x32x128 .f32 × FVec Ideal S32x128 .f32} {q : ℕ}
    (hw : ∀ i < 9, ∀ g m j, w i (ix3 0 g (C m j)) = ((p.W (sT g + (q + i) + 1) (sB g m) j : ℝ) : EReal))
    (I : ∃ L, LoopI p s q L) : ∃ L, LoopI p (trip (BD d.tr) w s) (q + 9) L := by
  obtain ⟨L, IA, IL⟩ := I
  obtain ⟨M, I⟩ := lsteps_inv H 9 hw IA
  have hS : ∀ g m, 0 < ∑ l, ∑ i, M g m i l := fun g m =>
    Inp.sum_pos' fun l => Inp.sum_pos' fun i => I.pos _ _ _ _
  refine ⟨fun g m => L g m + Real.log (∑ l, ∑ i, M g m i l),
    ⟨fun g m i j => M g m i j * (1 / ∑ l, ∑ i, M g m i l), fun g i m j => ?_, fun g m i j => ?_, fun g m i j => ?_⟩, fun g m j => ?_⟩
  · unfold trip lnorm; pointwise
    rw [I.rd, sb_eq I, Ideal.div_coe (hS g m).ne', one_mul, ← EReal.coe_mul]
  · exact mul_pos (I.pos _ _ _ _) (one_div_pos.2 (hS g m))
  · rw [← I.eq, Real.exp_add, Real.exp_log (hS g m)]
    have := (hS g m).ne'
    field_simp
  · unfold trip; pointwise
    rw [IL, sb_eq I, log_pos_coe (hS g m), ← EReal.coe_add]

theorem iter_inv {d : Ld Ideal} {p : Inp} (H : Rd d p) {Y : Vec Ideal S127x32x128 .f32} (hY : RdY Y p)
    {s : FVec Ideal S32x32x128 .f32 × FVec Ideal S32x128 .f32} (I : ∃ L, LoopI p s 0 L) (n : ℕ) (hn : n ≤ 14) :
    ∃ L, LoopI p (iter (BD d.tr) Y s n) (9 * n) L := by
  induction n with
  | zero => exact I
  | succ n ih =>
    refine trip_inv H (fun i hi g m j => ?_) (ih (by omega))
    change Y (ix3 (Fin.ofNat 127 (9 * n + i + 1)) g (C m j)) = _
    rw [hY, show (Fin.ofNat 127 (9 * n + i + 1)).val = 9 * n + i + 1 from Nat.mod_eq_of_lt (by omega)]
    rfl

theorem init_inv {d : Ld Ideal} {p : Inp} (H : Rd d p) {Y : Vec Ideal S127x32x128 .f32} (hY : RdY Y p) :
    ∃ L, LoopI p (k0_pay305 (Et d.tr) (row Y 0), k0_pay306) 0 L := by
  refine ⟨fun _ _ => 0, ⟨fun g m i j => p.E p.tm i j * p.W (sT g) (sB g m) j, fun g i m j => ?_,
    fun g m i j => mul_pos (p.E_pos _ _ _) (p.W_pos _ _ _), fun g m i j => ?_⟩, fun g m j => ?_⟩
  · change k0_pay305 (Et d.tr) (row Y 0) (ix3 g i (C m j)) = _
    unfold k0_pay305; pointwise
    change _ * Y (ix3 0 g (C m j)) = _
    rw [Et_eq H, hY, ← EReal.coe_mul]; rfl
  · rw [Real.exp_zero, mul_one]; rfl
  · change k0_pay306 (ix2 g (C m j)) = _
    unfold k0_pay306; pointwise
    exact EReal.coe_zero.symm

/-! The chain over the segments. -/

theorem vpiece_at (A : FVec Ideal S32x32x128 .f32) (k : ℕ) (V : FVec Ideal S8x32 .f32) (h : Fin 2) (m : Fin 4) (j : Fin 32) :
    vpiece A k V (ix2 (B h m) j) = ∑ x, V (ix2 (B h m) x) * A (ix3 (Fin.ofNat 32 (2 * k + h.val)) x (C m j)) := by
  unfold vpiece; pointwise
  have e : (⟨j.val, by omega⟩ : Fin 128) = C 0 j := Fin.ext (show j.val = 32 * 0 + j.val by omega)
  fin_cases h <;> fin_cases m <;>
    first
    | rfl
    | exact (show _ = ∑ x, V (ix2 (B 0 0) x) * A (ix3 (Fin.ofNat 32 (2 * k)) x ⟨j.val, by omega⟩) from rfl).trans (by rw [e]; rfl)
    | exact (show _ = ∑ x, V (ix2 (B 1 0) x) * A (ix3 (Fin.ofNat 32 (2 * k + 1)) x ⟨j.val, by omega⟩) from rfl).trans (by rw [e]; rfl)

/-- The logarithm a segment contributes to a batch. -/
def Lk (L : Fin 32 → Fin 4 → ℝ) (k : ℕ) (b : Fin 8) : ℝ := L (Fin.ofNat 32 (2 * k + b.val / 4)) ⟨b.val % 4, by omega⟩

theorem Lk_B (L : Fin 32 → Fin 4 → ℝ) (k : ℕ) (h : Fin 2) (m : Fin 4) :
    Lk L k (B h m) = L (Fin.ofNat 32 (2 * k + h.val)) m := by
  unfold Lk
  have h1 : (B h m).val / 4 = h.val := by simp only [B]; omega
  have h2 : (B h m).val % 4 = m.val := by simp only [B]; omega
  simp only [h1, h2]

/-- A row of vectors holds the scaled forward sums up to a factor per batch. -/
structure VI (p : Inp) (V : FVec Ideal S8x32 .f32) (c : Fin 8 → ℝ) (t : ℕ) (U : Fin 8 → Fin 32 → ℝ) : Prop where
  rd : ∀ b j, V (ix2 b j) = ((U b j : ℝ) : EReal)
  pos : ∀ b j, 0 < U b j
  eq : ∀ b j, U b j * Real.exp (c b) = p.be p.tm b t j

theorem vsteps_inv {d : Ld Ideal} {p : Inp} (H : Rd d p) {s : FVec Ideal S32x32x128 .f32 × FVec Ideal S32x128 .f32}
    {L : Fin 32 → Fin 4 → ℝ} (I : LoopI p s 126 L) (n : ℕ) (hn : n ≤ 16) :
    ∃ cl : Fin 8 → ℝ, (∀ b, (vsteps s.1 (k0_pay18 d.st d.g0) n).2 (ix2 b 0) = ((cl b : ℝ) : EReal)) ∧
      ∃ U, VI p (vsteps s.1 (k0_pay18 d.st d.g0) n).1 (fun b => cl b + ∑ k ∈ Finset.range n, Lk L k b) (127 * n) U := by
  induction n with
  | zero =>
    refine ⟨fun _ => 0, fun b => ?_, fun b j => p.W 0 b j, fun b j => W0_eq H b j, fun b j => p.W_pos _ _ _, fun b j => ?_⟩
    · change (broadcast S8x1 (Scalar.ofBits .f32 0x00000000#32) : FVec Ideal S8x1 .f32) (ix2 b 0) = _
      pointwise
      exact EReal.coe_zero.symm
    · simp [Inp.be]
  | succ n ih =>
    obtain ⟨cl, hcl, U, J⟩ := ih (by omega)
    obtain ⟨⟨M, IA⟩, IL⟩ := I
    generalize hs' : vsteps s.1 (k0_pay18 d.st d.g0) n = s' at hcl J
    change ∃ cl : Fin 8 → ℝ, (∀ b, (vstep s.1 n (vsteps s.1 (k0_pay18 d.st d.g0) n)).2 (ix2 b 0) = ((cl b : ℝ) : EReal)) ∧
      ∃ U, VI p (vstep s.1 n (vsteps s.1 (k0_pay18 d.st d.g0) n)).1
        (fun b => cl b + ∑ k ∈ Finset.range (n + 1), Lk L k b) (127 * (n + 1)) U
    rw [hs']
    have hp : ∃ X : Fin 8 → Fin 32 → ℝ, (∀ b j, vpiece s.1 n s'.1 (ix2 b j) = ((X b j : ℝ) : EReal)) ∧ (∀ b j, 0 < X b j) ∧
        ∀ b j, X b j * Real.exp (cl b + ∑ k ∈ Finset.range (n + 1), Lk L k b) = p.be p.tm b (127 * (n + 1)) j := by
      have key : ∀ b : Fin 8, ∃ x : Fin 32 → ℝ, (∀ j, vpiece s.1 n s'.1 (ix2 b j) = ((x j : ℝ) : EReal)) ∧ (∀ j, 0 < x j) ∧
          ∀ j, x j * Real.exp (cl b + ∑ k ∈ Finset.range (n + 1), Lk L k b) = p.be p.tm b (127 * (n + 1)) j := by
        intro b
        obtain ⟨h, m, rfl⟩ := B_surj b
        have hg : (Fin.ofNat 32 (2 * n + h.val)).val = 2 * n + h.val := Nat.mod_eq_of_lt (by omega)
        have hT : sT (Fin.ofNat 32 (2 * n + h.val)) = 127 * n + 1 := by unfold sT; rw [hg]; omega
        have hB : sB (Fin.ofNat 32 (2 * n + h.val)) m = B h m := by
          unfold sB; congr 1; apply Fin.ext; change _ % 2 = h.val; rw [hg]; omega
        refine ⟨fun j => ∑ x, U (B h m) x * M (Fin.ofNat 32 (2 * n + h.val)) m x j, fun j => ?_,
          fun j => Inp.sum_pos' fun x => mul_pos (J.pos _ _) (IA.pos _ _ _ _), fun j => ?_⟩
        · rw [vpiece_at]
          simp only [J.rd, IA.rd, ← EReal.coe_mul, ← coe_sum]
        · rw [show 127 * (n + 1) = 127 * n + 1 + 126 by ring, Inp.be_seg, Finset.sum_range_succ, Lk_B, ← add_assoc,
            Real.exp_add, Finset.sum_mul]
          refine Finset.sum_congr rfl fun x _ => ?_
          have q := IA.eq (Fin.ofNat 32 (2 * n + h.val)) m x j
          rw [hT, hB] at q
          rw [← J.eq, ← q]; ring
      choose X h1 h2 h3 using key
      exact ⟨X, h1, h2, h3⟩
    obtain ⟨X, hX, hX0, hXe⟩ := hp
    have hm : ∀ b, vmax (vpiece s.1 n s'.1) (ix2 b 0) = ((mx (X b) : ℝ) : EReal) := by
      intro b; unfold vmax; pointwise
      simp only [hX, ofBits_ninf]
      exact mx_coe _
    have hm0 : ∀ b, 0 < mx (X b) := fun b => mx_pos (hX0 b)
    refine ⟨fun b => cl b + Real.log (mx (X b)), fun b => ?_, fun b j => X b j * (1 / mx (X b)), fun b j => ?_,
      fun b j => mul_pos (hX0 b j) (one_div_pos.2 (hm0 b)), fun b j => ?_⟩
    · unfold vstep; pointwise
      rw [hcl, hm, log_pos_coe (hm0 b), ← EReal.coe_add]
    · unfold vstep; pointwise
      rw [hX, hm, Ideal.div_coe (hm0 b).ne', ← EReal.coe_mul]
    · change X b j * (1 / mx (X b)) * Real.exp (cl b + Real.log (mx (X b)) + ∑ k ∈ Finset.range (n + 1), Lk L k b) = _
      rw [← hXe, add_right_comm, Real.exp_add _ (Real.log _), Real.exp_log (hm0 b)]
      have := (hm0 b).ne'
      field_simp

theorem tsteps_inv {d : Ld Ideal} {p : Inp} (H : Rd d p) {V : FVec Ideal S8x32 .f32} {c : Fin 8 → ℝ}
    (I : ∃ U, VI p V c 2032 U) (n : ℕ) (hn : n ≤ 15) :
    ∃ U, VI p (tsteps (k0_pay5 d.tr) (k0_pay300 d.en d.GT) V n) c (2032 + n) U := by
  induction n with
  | zero => exact I
  | succ n ih =>
    obtain ⟨U, J⟩ := ih (by omega)
    change ∃ U, VI p (tstep (k0_pay5 d.tr) (k0_pay300 d.en d.GT) n (tsteps (k0_pay5 d.tr) (k0_pay300 d.en d.GT) V n)) c
      (2032 + (n + 1)) U
    generalize tsteps (k0_pay5 d.tr) (k0_pay300 d.en d.GT) V n = V' at J
    have hn' : (Fin.ofNat 15 n).val = n := Nat.mod_eq_of_lt (by omega)
    refine ⟨fun b j => (∑ l, U b l * p.E p.tm l j) * p.W (2033 + n) b j, fun b j => ?_,
      fun b j => mul_pos (Inp.sum_pos' fun l => mul_pos (J.pos _ _) (p.E_pos _ _ _)) (p.W_pos _ _ _), fun b j => ?_⟩
    · unfold tstep; pointwise
      simp only [J.rd, E_eq H, WT_eq H, hn', ← EReal.coe_mul, ← coe_sum]
    · rw [show 2032 + (n + 1) = 2032 + n + 1 from rfl, Inp.be, mul_right_comm, Finset.sum_mul,
        show 2032 + n + 1 = 2033 + n by omega]
      congr 1
      refine Finset.sum_congr rfl fun l _ => ?_
      rw [← J.eq]; ring

theorem Lb_eq {la : FVec Ideal S32x128 .f32} {L : Fin 32 → Fin 4 → ℝ} (IL : ∀ g m j, la (ix2 g (C m j)) = ((L g m : ℝ) : EReal))
    (b : Fin 8) : Lb la (ix2 b 0) = ((∑ k ∈ Finset.range 16, Lk L k b : ℝ) : EReal) := by
  have h : ∀ (h : Fin 2) (m : Fin 4), Lb la (ix2 (B h m) 0)
      = ∑ x : Fin 16, la (ix2 ⟨x.val * 2 + h.val, by omega⟩ (C m 0)) := by
    intro h m
    unfold Lb; pointwise
    fin_cases h <;> fin_cases m <;> rfl
  obtain ⟨h', m, rfl⟩ := B_surj b
  rw [h, Finset.sum_range]
  simp only [IL, ← coe_sum, Lk_B]
  congr 1
  refine Finset.sum_congr rfl fun x _ => congrArg (fun g => L g m) (Fin.ext ?_)
  change x.val * 2 + h'.val = (2 * x.val + h'.val) % 32
  omega

theorem denom_eq {d : Ld Ideal} {p : Inp} (H : Rd d p) {s : FVec Ideal S32x32x128 .f32 × FVec Ideal S32x128 .f32}
    {L : Fin 32 → Fin 4 → ℝ} (I : LoopI p s 126 L) (b : Fin 8) :
    denomL d s.1 s.2 (ix2 b 0) = ((Real.log (∑ j, p.be p.tm b 2047 j) : ℝ) : EReal) := by
  obtain ⟨cl, hcl, hV⟩ := vsteps_inv H I 16 le_rfl
  obtain ⟨U, J⟩ := tsteps_inv H hV 15 le_rfl
  have h0 : 0 < ∑ j, U b j := Inp.sum_pos' fun j => J.pos b j
  unfold denomL; pointwise
  simp only [J.rd, hcl, Lb_eq I.2, ← coe_sum]
  rw [log_pos_coe h0, ← EReal.coe_add, ← EReal.coe_add]
  congr 1
  simp only [← J.eq, ← Finset.sum_mul]
  rw [Real.log_mul h0.ne' (Real.exp_pos _).ne', Real.log_exp, add_comm]

theorem den_eq (p : Inp) (b : Fin 8) :
    p.den b = Real.log (∑ j, p.be p.tm b 2047 j) + ∑ t ∈ Finset.range 2048, p.gm t b + 2047 * p.tm := by
  have h0 : 0 < (∑ j, p.be p.tm b 2047 j) * Real.exp ((∑ s ∈ Finset.range (2047 + 1), p.gm s b) + (2047 : ℕ) * p.tm) := by
    rw [Finset.sum_mul]; simp only [← Inp.al_eq]; exact Inp.sum_pos' fun j => p.al_pos b 2047 j
  have h1 := (mul_pos_iff_of_pos_right (Real.exp_pos _)).1 h0
  unfold Inp.den
  simp only [p.al_eq p.tm b 2047, ← Finset.sum_mul]
  rw [Real.log_mul h1.ne' (Real.exp_pos _).ne', Real.log_exp, ← add_assoc]
  norm_num

/-- The kernel's result over the reals. -/
theorem kout_eq {d : Ld Ideal} {p : Inp} (H : Rd d p) {Y : Vec Ideal S127x32x128 .f32} (hY : RdY Y p) :
    kout d (iter (BD d.tr) Y (k0_pay305 (Et d.tr) (row Y 0), k0_pay306) 14).1
      (iter (BD d.tr) Y (k0_pay305 (Et d.tr) (row Y 0), k0_pay306) 14).2 (ix2 0 0) = ((p.out : ℝ) : EReal) := by
  obtain ⟨L, I⟩ := iter_inv H hY (init_inv H hY) 14 le_rfl
  generalize iter (BD d.tr) Y (k0_pay305 (Et d.tr) (row Y 0), k0_pay306) 14 = s at I
  unfold kout k0_pay385; pointwise
  simp only [ofBits_8, ofBits_2047, numF_eq H, gmsF_eq H, tm_eq H, denom_eq H I, ← EReal.coe_mul, ← EReal.coe_add, ← coe_sum,
    ← EReal.coe_sub]
  congr 1
  unfold Inp.out
  simp only [den_eq]
  simp

end Cert.Proof.Crf
end
-- ==== Proof.Crf.Blocks.lean ====
module
public import proofs.«01_k».proof.Proof.Crf.Out
public import proofs.«01_k».proof.Proof.Crf.Denom
@[expose] public section

/-! The kernel's loads, given what its input blocks hold. -/

noncomputable section
namespace Cert.Proof.Crf
open Cert.KernelIdeal Cert.KernelIdeal.Gen
open Idealize.ShloMosaic Idealize.SL.Sem

theorem rect3 {n0 n1 n2 k0 k1 k2 : ℕ} (o : ℕ)
    (h : ∀ a, (![o, 0, 0] : Fin 3 → ℕ) a + (![k0, k1, k2] : Fin 3 → ℕ) a ≤ (⟨3, ![n0, n1, n2]⟩ : Shape).size a)
    (i : Fin k0) (j : Fin k1) (q : Fin k2) (i' : Fin n0) (j' : Fin n1) (q' : Fin n2) (hi : i'.val = o + i.val)
    (hj : j'.val = j.val) (hq : q'.val = q.val) :
    (Rect.unit (s := ⟨3, ![n0, n1, n2]⟩) ![o, 0, 0] ![k0, k1, k2] h).toLoadRect.idx (ix3 i j q) = ix3 i' j' q' := by
  funext a; fin_cases a
  · exact Fin.ext (by change o + 1 * i.val = i'.val; omega)
  · exact Fin.ext (by change 0 + 1 * j.val = j'.val; omega)
  · exact Fin.ext (by change 0 + 1 * q.val = q'.val; omega)

theorem rect2 {n0 n1 k0 k1 : ℕ} (o : ℕ)
    (h : ∀ a, (![o, 0] : Fin 2 → ℕ) a + (![k0, k1] : Fin 2 → ℕ) a ≤ (⟨2, ![n0, n1]⟩ : Shape).size a)
    (i : Fin k0) (j : Fin k1) (i' : Fin n0) (j' : Fin n1) (hi : i'.val = o + i.val) (hj : j'.val = j.val) :
    (Rect.unit (s := ⟨2, ![n0, n1]⟩) ![o, 0] ![k0, k1] h).toLoadRect.idx (ix2 i j) = ix2 i' j' := by
  funext a; fin_cases a
  · exact Fin.ext (by change o + 1 * i.val = i'.val; omega)
  · exact Fin.ext (by change 0 + 1 * j.val = j'.val; omega)

section
variable (arg0 : Memref sig .tc .vmem S2048x8x32 .f32) (harg0 : arg0.IsWhole)
  (arg1 : Memref sig .tc .vmem S2048x128 .f32) (harg1 : arg1.IsWhole)
  (arg2 : Memref sig .tc .vmem S2048x128 .f32) (harg2 : arg2.IsWhole)
  (arg3 : Memref sig .tc .vmem S2048x8 .i32) (harg3 : arg3.IsWhole)
  (arg4 : Memref sig .tc .vmem S32x32 .f32) (harg4 : arg4.IsWhole)
  (arg5 : Memref sig .tc .vmem S1x32 .f32) (harg5 : arg5.IsWhole)
  (arg6 : Memref sig .tc .vmem S1x32 .f32) (harg6 : arg6.IsWhole)
  (x0 : Vec Ideal S2048x8x32 .f32) (x1 x2 : Vec Ideal S2048x128 .f32) (x3 : Vec Ideal S2048x8 .i32)
  (x4 : Vec Ideal S32x32 .f32) (x5 x6 : Vec Ideal S1x32 .f32) (p : Inp)

theorem rd_of (h0 : ∀ (t : Fin 2048) b j, x0 (ix3 t b j) = ((p.x t.val b j : ℝ) : EReal))
    (h1 : ∀ (t : Fin 2048) m j, x1 (ix2 t (C m j)) = ((p.x t.val (B 0 m) j : ℝ) : EReal))
    (h2 : ∀ (t : Fin 2048) m j, x2 (ix2 t (C m j)) = ((p.x t.val (B 1 m) j : ℝ) : EReal))
    (h3 : ∀ (t : Fin 2048) b, x3 (ix2 t b) = BitVec.ofNat 32 (p.tag t.val b).val)
    (h4 : ∀ i j, x4 (ix2 i j) = ((p.a i j : ℝ) : EReal))
    (h5 : ∀ j, x5 (ix2 0 j) = ((p.st j : ℝ) : EReal)) (h6 : ∀ j, x6 (ix2 0 j) = ((p.en j : ℝ) : EReal)) :
    Rd (ldA arg0 harg0 arg1 harg1 arg2 harg2 arg3 harg3 arg4 harg4 arg5 harg5 arg6 harg6 x0 x1 x2 x3 x4 x5 x6) p := by
  have hk : ∀ (k : Fin 16) (l : Fin 127), 1 + 127 * k.val + l.val < 2048 := fun k l => by have := k.isLt; have := l.isLt; omega
  have hk' : ∀ (l : Fin 15), 2033 + l.val < 2048 := fun l => by have := l.isLt; omega
  constructor
  · intro i j
    unfold ldA; simp only [View.readAt_eq_ld, harg4.read_unread, View.ld]
    rw [rect2 0 _ i j i j (by omega) rfl, h4]
  · intro j
    unfold ldA; simp only [View.readAt_eq_ld, harg5.read_unread, View.ld]
    rw [rect2 0 _ 0 j 0 j (by omega) rfl, h5]
  · intro j
    unfold ldA; simp only [View.readAt_eq_ld, harg6.read_unread]
    unfold k0_pay15; pointwise
    exact h6 j
  · intro b j
    unfold ldA; simp only [View.readAt_eq_ld, harg0.read_unread, View.ld]
    rw [rect3 0 _ 0 b j 0 b j (by omega) rfl rfl, h0]; rfl
  · intro b
    unfold ldA; simp only [View.readAt_eq_ld, harg3.read_unread, View.ld]
    rw [rect2 0 _ 0 b 0 b (by omega) rfl, h3]; rfl
  · intro k l b j
    unfold ldA; simp only [View.readAt_eq_ld, harg0.read_unread, View.ld]
    rw [rect3 _ _ l b j ⟨_, hk k l⟩ b j rfl rfl rfl, h0]
  · intro h k l m j
    fin_cases h
    · change arg1.view.readAt _ _ _ _ = _
      simp only [View.readAt_eq_ld, harg1.read_unread, View.ld]
      rw [rect2 _ _ l (C m j) ⟨_, hk k l⟩ (C m j) rfl rfl, h1]; rfl
    · change arg2.view.readAt _ _ _ _ = _
      simp only [View.readAt_eq_ld, harg2.read_unread, View.ld]
      rw [rect2 _ _ l (C m j) ⟨_, hk k l⟩ (C m j) rfl rfl, h2]; rfl
  · intro k l b
    unfold ldA; simp only [View.readAt_eq_ld, harg3.read_unread, View.ld]
    rw [rect2 _ _ l b ⟨_, hk k l⟩ b rfl rfl, h3]
  · intro t b j
    unfold ldA; simp only [View.readAt_eq_ld, harg0.read_unread, View.ld]
    rw [rect3 _ _ t b j ⟨_, hk' t⟩ b j rfl rfl rfl, h0]
  · intro t b
    unfold ldA; simp only [View.readAt_eq_ld, harg3.read_unread, View.ld]
    rw [rect2 _ _ t b ⟨_, hk' t⟩ b rfl rfl, h3]

end

theorem rdY_of (arg8 : Memref sig .tc .vmem S127x32x128 .f32) {d : Ld Ideal} {p : Inp} (H : Rd d p) : RdY (wts arg8 d) p := by
  intro l g m j
  rw [wts_at]
  unfold slots
  rw [slot_eq H]
  have e1 : (Fin.ofNat 16 (g.val / 2)).val = g.val / 2 := Nat.mod_eq_of_lt (by have := g.isLt; omega)
  have e2 : Fin.ofNat 2 (g.val % 2) = ⟨g.val % 2, Nat.mod_lt _ (by omega)⟩ := Fin.ext (Nat.mod_mod _ _)
  rw [e1, e2]; rfl

end Cert.Proof.Crf
end
-- ==== Proof.Crf.Pre.lean ====
module
public import proofs.«01_k».proof.Proof.Gen.Pre_drawn
public import proofs.«01_k».proof.Proof.Crf.Reals
public import Idealize.ShloMosaic.Lib.Pointwise
public import Idealize.ShloMosaic.Lib.ReduceAll
public import Idealize.ShloMosaic.Lib.StableHlo.Predicate
@[expose] public section

/-! What the precondition says of the six arguments. -/

noncomputable section
namespace Cert.Proof.Crf
open Cert.Pre_drawn
open Idealize.ShloMosaic Idealize.SL.Sem
open Idealize.ShloMosaic.StableHlo.Predicate (ofBool_eq_one_iff cmpi_eq_iff)

/-- The sequence problem the six arguments hold (the mask is all ones). -/
def mkInp (a0 : FVec Ideal S8x2048x32 .f32) (a1 : IVec S8x2048 32) (a3 : FVec Ideal S32x32 .f32)
    (a4 a5 : FVec Ideal S32 .f32) : Inp where
  x t b j := (a0 (ix3 b (Fin.ofNat 2048 t) j)).toReal
  tag t b := Fin.ofNat 32 (a1 (ix2 b (Fin.ofNat 2048 t))).toNat
  a i j := (a3 (ix2 i j)).toReal
  st j := (a4 (ix1 j)).toReal
  en j := (a5 (ix1 j)).toReal

/-- The arguments hold the numbers of `p`, tags below 32 and a mask of ones. -/
structure Good (a0 : FVec Ideal S8x2048x32 .f32) (a1 a2 : IVec S8x2048 32) (a3 : FVec Ideal S32x32 .f32)
    (a4 a5 : FVec Ideal S32 .f32) (p : Inp) : Prop where
  x : ∀ b (t : Fin 2048) j, a0 (ix3 b t j) = ((p.x t.val b j : ℝ) : EReal)
  tag : ∀ b (t : Fin 2048), a1 (ix2 b t) = BitVec.ofNat 32 (p.tag t.val b).val
  mask : ∀ b t, a2 (ix2 b t) = 1#32
  a : ∀ i j, a3 (ix2 i j) = ((p.a i j : ℝ) : EReal)
  st : ∀ j, a4 (ix1 j) = ((p.st j : ℝ) : EReal)
  en : ∀ j, a5 (ix1 j) = ((p.en j : ℝ) : EReal)

theorem and_one {a b : BitVec 1} (h : IntOp.andi a b = 1#1) : a = 1#1 ∧ b = 1#1 := by
  revert a b; decide

theorem ofBits_inf : (Ideal.ofBits .f32 0x7F800000#32 : EReal) = ⊤ := by simp [Ideal.ofBits, Ideal.ieee]

/-- A number whose absolute value is below infinity is real. -/
theorem fin_of_abs (x : EReal) (h : max x (-x) < ⊤) : x = ((x.toReal : ℝ) : EReal) := by
  refine (EReal.coe_toReal ?_ ?_).symm
  · rintro rfl; simp at h
  · rintro rfl; simp at h

instance : Subsingleton S_.Idx := ⟨fun a b => funext fun i => i.elim0⟩

theorem fin_word (w : BitVec 32) (h0 : IntOp.cmpi .sge w 0#32 = 1#1) (h1 : IntOp.cmpi .slt w 32#32 = 1#1) :
    w = BitVec.ofNat 32 (Fin.ofNat 32 w.toNat).val := by
  have hw : w.toNat < 32 := by
    simp only [IntOp.cmpi, ofBool_eq_one_iff, BitVec.sle, BitVec.slt, decide_eq_true_eq] at h0 h1
    have e32 : (32#32 : BitVec 32).toInt = 32 := rfl
    have e0 : (0#32 : BitVec 32).toInt = 0 := rfl
    rw [e0] at h0; rw [e32] at h1
    rw [BitVec.toInt_eq_toNat_cond] at h0 h1
    split at h0 <;> omega
  apply BitVec.eq_of_toNat_eq
  simp only [Fin.ofNat, BitVec.toNat_ofNat]; omega

theorem good_of_pre (a0 : FVec Ideal S8x2048x32 .f32) (a1 a2 : IVec S8x2048 32) (a3 : FVec Ideal S32x32 .f32)
    (a4 a5 : FVec Ideal S32 .f32) (h : fn (F := Ideal) a0 a1 a2 a3 a4 a5 = fun _ => 1#1) :
    Good a0 a1 a2 a3 a4 a5 (mkInp a0 a1 a3 a4 a5) := by
  have h' := congrFun h (ix0)
  obtain ⟨h', h5⟩ := and_one h'
  obtain ⟨h', h4⟩ := and_one h'
  obtain ⟨h', h3⟩ := and_one h'
  obtain ⟨h', h2⟩ := and_one h'
  obtain ⟨h0, h1⟩ := and_one h'
  have r0 := Host.reduce_andi_all _ _ _ _ _ h0
  have r1 := Host.reduce_andi_all _ _ _ _ _ h1
  have r2 := Host.reduce_andi_all _ _ _ _ _ h2
  have r3 := Host.reduce_andi_all _ _ _ _ _ h3
  have r4 := Host.reduce_andi_all _ _ _ _ _ h4
  have r5 := Host.reduce_andi_all _ _ _ _ _ h5
  have lt : ∀ x : EReal, BitVec.ofBool (decide (max x (-x) < Ideal.ofBits .f32 0x7F800000#32)) = 1#1 →
      x = ((x.toReal : ℝ) : EReal) := fun x hx => by
    rw [ofBool_eq_one_iff, decide_eq_true_eq, ofBits_inf] at hx
    exact fin_of_abs x hx
  have of : ∀ t : Fin 2048, Fin.ofNat 2048 t.val = t := fun t => Fin.ext (Nat.mod_eq_of_lt t.isLt)
  refine ⟨fun b t j => ?_, fun b t => ?_, fun b t => ?_, fun i j => ?_, fun j => ?_, fun j => ?_⟩
  · simp only [mkInp, of]; exact lt _ (r0 (ix3 b t j))
  · simp only [mkInp, of]
    obtain ⟨u, v⟩ := and_one (r1 (ix2 b t))
    exact fin_word _ u v
  · exact cmpi_eq_iff.1 (r2 (ix2 b t))
  · exact lt _ (r3 (ix2 i j))
  · exact lt _ (r4 (ix1 j))
  · exact lt _ (r5 (ix1 j))

end Cert.Proof.Crf
end
-- ==== Proof.Crf.KernelRun.lean ====
module
public import proofs.«01_k».proof.Proof.Crf.Blocks
public import proofs.«01_k».proof.Proof.Crf.Pre
public import proofs.«01_k».proof.Proof.Gen.KernelIdeal.Value
public import Idealize.ShloMosaic.Lib.StableHlo.ReadAt
@[expose] public section

/-! What the kernel leaves in its result array. -/

noncomputable section
namespace Cert.Proof.Crf
open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments on core `c` hold the problem `p`. -/
def GoodK (c : Dev nD) (p : Inp) : Prop :=
  Good (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) p

variable {m} {c : Dev nD} {p : Inp} (g : GoodK m c p)
include g

theorem V0_at (t : Fin 2048) (b : Fin 8) (j : Fin 32) : V m c main_v0 (ix3 t b j) = ((p.x t.val b j : ℝ) : EReal) := by
  refine Eq.trans ?_ (g.x b t j)
  unfold Gen.V
  after_reads_at

theorem V2_at (t : Fin 2048) (b : Fin 8) : V m c main_v2 (ix2 t b) = BitVec.ofNat 32 (p.tag t.val b).val := by
  refine Eq.trans ?_ (g.tag b t)
  unfold Gen.V
  after_reads_at

theorem V4_at (t : Fin 2048) (k : Fin 4) (j : Fin 32) : V m c main_v4 (ix2 t (C k j)) = ((p.x t.val (B 0 k) j : ℝ) : EReal) := by
  refine Eq.trans ?_ (g.x (B 0 k) t j)
  unfold Gen.V
  after_reads_at
  change _ = (m ((c : Thread nD τ).loc main_arg0)) _
  have hj := j.isLt
  have hd : (C k j).val / 32 = k.val := by simp only [C]; omega
  have hm : (C k j).val % 32 = j.val := by simp only [C]; omega
  exact congrArg (m ((c : Thread nD τ).loc main_arg0)) (congrArg₂ (fun b q => ix3 b t q)
    (Fin.ext (by change (C k j).val / 32 = 4 * 0 + k.val; omega)) (Fin.ext hm))

theorem V6_at (t : Fin 2048) (k : Fin 4) (j : Fin 32) : V m c main_v6 (ix2 t (C k j)) = ((p.x t.val (B 1 k) j : ℝ) : EReal) := by
  refine Eq.trans ?_ (g.x (B 1 k) t j)
  unfold Gen.V
  after_reads_at
  change _ = (m ((c : Thread nD τ).loc main_arg0)) _
  have hj := j.isLt
  have hd : (C k j).val / 32 = k.val := by simp only [C]; omega
  have hm : (C k j).val % 32 = j.val := by simp only [C]; omega
  exact congrArg (m ((c : Thread nD τ).loc main_arg0)) (congrArg₂ (fun b q => ix3 b t q)
    (Fin.ext (by change 4 + (C k j).val / 32 = 4 * 1 + k.val; omega)) (Fin.ext hm))

theorem V7_at (j : Fin 32) : V m c main_v7 (ix2 0 j) = ((p.st j : ℝ) : EReal) := by
  refine Eq.trans ?_ (g.st j)
  unfold Gen.V
  after_reads_at

theorem V8_at (j : Fin 32) : V m c main_v8 (ix2 0 j) = ((p.en j : ℝ) : EReal) := by
  refine Eq.trans ?_ (g.en j)
  unfold Gen.V
  after_reads_at

omit g in
theorem iblk0 : iblk m c 0 t0_0 = V m c main_v0 :=
  Memref.read_access_unit_zero (Elt Ideal) main_v0 (off := fun a => win0_0.index t0_0 a * main_v0.ty.shape.size a)
    (funext fun a => by fin_cases a <;> decide) _ (V m c main_v0)

omit g in
theorem iblk1 : iblk m c 1 t0_0 = V m c main_v4 :=
  Memref.read_access_unit_zero (Elt Ideal) main_v4 (off := fun a => win0_1.index t0_0 a * main_v4.ty.shape.size a)
    (funext fun a => by fin_cases a <;> decide) _ (V m c main_v4)

omit g in
theorem iblk2 : iblk m c 2 t0_0 = V m c main_v6 :=
  Memref.read_access_unit_zero (Elt Ideal) main_v6 (off := fun a => win0_2.index t0_0 a * main_v6.ty.shape.size a)
    (funext fun a => by fin_cases a <;> decide) _ (V m c main_v6)

omit g in
theorem iblk3 : iblk m c 3 t0_0 = V m c main_v2 :=
  Memref.read_access_unit_zero (Elt Ideal) main_v2 (off := fun a => win0_3.index t0_0 a * main_v2.ty.shape.size a)
    (funext fun a => by fin_cases a <;> decide) _ (V m c main_v2)

omit g in
theorem iblk4 : iblk m c 4 t0_0 = V m c main_arg3 :=
  Memref.read_access_unit_zero (Elt Ideal) main_arg3 (off := fun a => win0_4.index t0_0 a * main_arg3.ty.shape.size a)
    (funext fun a => by fin_cases a <;> decide) _ (V m c main_arg3)

omit g in
theorem iblk5 : iblk m c 5 t0_0 = V m c main_v7 :=
  Memref.read_access_unit_zero (Elt Ideal) main_v7 (off := fun a => win0_5.index t0_0 a * main_v7.ty.shape.size a)
    (funext fun a => by fin_cases a <;> decide) _ (V m c main_v7)

omit g in
theorem iblk6 : iblk m c 6 t0_0 = V m c main_v8 :=
  Memref.read_access_unit_zero (Elt Ideal) main_v8 (off := fun a => win0_6.index t0_0 a * main_v8.ty.shape.size a)
    (funext fun a => by fin_cases a <;> decide) _ (V m c main_v8)

/-- The block the kernel computes, at its one index. -/
theorem outs_eq : outsAt0 m c t0_0 = fun _ => ((p.out : ℝ) : EReal) := by
  have H := rd_of (ms0_0 t0_0) (hs0_0 t0_0) (ms0_1 t0_0) (hs0_1 t0_0) (ms0_2 t0_0) (hs0_2 t0_0) (ms0_3 t0_0) (hs0_3 t0_0)
    (ms0_4 t0_0) (hs0_4 t0_0) (ms0_5 t0_0) (hs0_5 t0_0) (ms0_6 t0_0) (hs0_6 t0_0)
    (iblk m c 0 t0_0) (iblk m c 1 t0_0) (iblk m c 2 t0_0) (iblk m c 3 t0_0) (iblk m c 4 t0_0) (iblk m c 5 t0_0) (iblk m c 6 t0_0) p
    (by rw [iblk0]; exact V0_at g) (by rw [iblk1]; exact V4_at g) (by rw [iblk2]; exact V6_at g) (by rw [iblk3]; exact V2_at g)
    (by rw [iblk4, V_main_arg3]; exact g.a) (by rw [iblk5]; exact V7_at g) (by rw [iblk6]; exact V8_at g)
  unfold outsAt0
  rw [out_eq]
  unfold kres
  have hY := rdY_of scM0_0 H
  funext i
  have hi : i = ix2 0 0 := by
    funext a; fin_cases a
    · exact Fin.ext (by have := (i 0).isLt; change (i 0).val < 1 at this; change (i 0).val = 0; omega)
    · exact Fin.ext (by have := (i 1).isLt; change (i 1).val < 1 at this; change (i 1).val = 0; omega)
  rw [hi]
  exact kout_eq H hY

/-- The result array after the launch. -/
theorem final_eq : (dats m 0 c).arrAt 7 cfg0.N = fun _ => ((p.out : ℝ) : EReal) := by
  refine (dats m 0 c).arrAt_eq_of_cover 7 (fun _ => ((p.out : ℝ) : EReal)) (fun t _ => ?_) fun i => ⟨t0_0, flush0_7 _, ?_⟩
  · obtain rfl := fin_N0 t
    show (cfg0.win 7).cut (grid0.coords t0_0) ((dats m 0 c).after 7 t0_0) = _
    rw [after0_7, outs_eq g]
    rfl
  · show i ∈ ((View.whole main_v9).slice (win0_7.rect t0_0)).set
    rw [View.set_slice_whole, Rect.mem_set_unit]
    intro a
    have h0 : (i 0 : Nat) < 1 := (i 0).isLt
    have h1 : (i 1 : Nat) < 1 := (i 1).isLt
    match a with
    | ⟨0, _⟩ =>
      show win0_7.index t0_0 0 * win0_7.size 0 ≤ (i 0 : Nat) ∧ (i 0 : Nat) < win0_7.index t0_0 0 * win0_7.size 0 + win0_7.xsize (grid0.coords t0_0) 0
      rw [show win0_7.index t0_0 0 * win0_7.size 0 = 0 from by decide +kernel, show win0_7.xsize (grid0.coords t0_0) 0 = 1 from by decide +kernel]; omega
    | ⟨1, _⟩ =>
      show win0_7.index t0_0 1 * win0_7.size 1 ≤ (i 1 : Nat) ∧ (i 1 : Nat) < win0_7.index t0_0 1 * win0_7.size 1 + win0_7.xsize (grid0.coords t0_0) 1
      rw [show win0_7.index t0_0 1 * win0_7.size 1 = 0 from by decide +kernel, show win0_7.xsize (grid0.coords t0_0) 1 = 1 from by decide +kernel]; omega

end Cert.Proof.Crf
end
-- ==== Proof.Crf.Entry.lean ====
module
public import proofs.«01_k».proof.Proof.Gen.ReferenceIdeal.Run
public import proofs.«01_k».proof.Proof.Crf.Pre
public import proofs.«01_k».proof.Proof.Crf.Consts
public import Idealize.ShloMosaic.Lib.StableHlo.ReadAt
@[expose] public section

/-! The reference's arrays before its scan: the factors, the gathered score of the tags and the scan's inputs. -/

noncomputable section
namespace Cert.Proof.Crf
open Cert.ReferenceIdeal Cert.ReferenceIdeal.Gen Cert.ReferenceIdeal.Value
open Idealize.ShloMosaic Idealize.ShloMosaic.TcCoe Idealize.SL.Sem
open Idealize.ShloMosaic.StableHlo
open Idealize.ShloMosaic.StableHlo.Predicate (toNat_fold_addi)
open scoped BigOperators
variable (m : (ℓ : Loc nD τ sig) → Buf (Elt Ideal) ℓ) (c : Dev nD)

/-- The reference's arguments hold a problem's data. -/
def GoodR (p : Inp) : Prop :=
  Good (launchContents m c (Proc.devRef .tc main_arg0)) (launchContents m c (Proc.devRef .tc main_arg1))
    (launchContents m c (Proc.devRef .tc main_arg2)) (launchContents m c (Proc.devRef .tc main_arg3))
    (launchContents m c (Proc.devRef .tc main_arg4)) (launchContents m c (Proc.devRef .tc main_arg5)) p

/-- The factors, by time, batch, next and previous state. -/
def e40 : FVec Ideal S2048x8x32x32 .f32 := entryContents preI m c (Proc.devRef .tc main_v40)
/-- The tags one step back. -/
def e43 : IVec S2048x8 32 := entryContents preI m c (Proc.devRef .tc main_v43)
/-- The coordinates the score is gathered at. -/
def e70 : IVec S2048x8x1 32 := entryContents preI m c (Proc.devRef .tc main_v70)
def e71 : IVec S2048x8x1 32 := entryContents preI m c (Proc.devRef .tc main_v71)
def e72 : IVec S2048x8x1 32 := entryContents preI m c (Proc.devRef .tc main_v72)
def e73 : IVec S2048x8x1 32 := entryContents preI m c (Proc.devRef .tc main_v73)
def e74 : IVec S2048x8x4 32 := entryContents preI m c (Proc.devRef .tc main_v74)
/-- The gathered score. -/
def e75 : FVec Ideal S2048x8 .f32 := entryContents preI m c (Proc.devRef .tc main_v75)

/-- The arguments read by the factors. -/
def l0 : FVec Ideal S8x2048x32 .f32 := launchContents m c (Proc.devRef .tc main_arg0)
def l3 : FVec Ideal S32x32 .f32 := launchContents m c (Proc.devRef .tc main_arg3)
def l4 : FVec Ideal S32 .f32 := launchContents m c (Proc.devRef .tc main_arg4)
def l5 : FVec Ideal S32 .f32 := launchContents m c (Proc.devRef .tc main_arg5)

variable {m c} {p : Inp}

theorem cmpi_eq_nat (n k : ℕ) (hn : n < 2 ^ 32) (hk : k < 2 ^ 32) :
    IntOp.cmpi .eq (BitVec.ofNat 32 n) (BitVec.ofNat 32 k) = BitVec.ofBool (decide (n = k)) := by
  by_cases h : n = k
  · subst h; simp [IntOp.cmpi]
  · have : BitVec.ofNat 32 n ≠ BitVec.ofNat 32 k := by
      intro e; apply h
      have := congrArg BitVec.toNat e
      simp only [BitVec.toNat_ofNat] at this; omega
    simp [IntOp.cmpi, beq_eq_false_iff_ne.mpr this, h]

theorem uitofp_bit (q : Prop) [Decidable q] :
    (FloatOps.uitofp .f32 (BitVec.ofBool (decide q)) : Ideal .f32) = ((if q then 1 else 0 : ℝ) : EReal) := by
  change ((((BitVec.ofBool (decide q)).toNat : ℝ)) : EReal) = _
  by_cases h : q <;> simp [h]

theorem select_bit {α : Type} (q : Prop) [Decidable q] (x y : α) :
    Scalar.select (BitVec.ofBool (decide q)) x y = if q then x else y := by
  by_cases h : q <;> simp [h, Scalar.select]

/-- A full mask's length, less one. -/
theorem mask_last (g : GoodR m c p) (b : Fin 8) :
    IntOp.subi (Finset.fold IntOp.addi 0#32 (fun x => launchContents m c (Proc.devRef .tc main_arg2) (ix2 b x)) (Finset.univ : Finset (Fin 2048))) 1#32
      = BitVec.ofNat 32 2047 := by
  have h : (Finset.fold IntOp.addi 0#32 (fun x => launchContents m c (Proc.devRef .tc main_arg2) (ix2 b x)) (Finset.univ : Finset (Fin 2048)))
      = 2048#32 := by
    have hf : (fun x => launchContents m c (Proc.devRef .tc main_arg2) (ix2 b x)) = fun _ : Fin 2048 => 1#32 :=
      funext fun x => g.mask b x
    rw [hf]
    apply BitVec.eq_of_toNat_eq
    rw [toNat_fold_addi _ _ (by simp)]
    simp
  rw [h]; rfl

theorem e40_read (g : GoodR m c p) (t : Fin 2048) (b : Fin 8) (j i : Fin 32) :
    e40 m c (ix4 t b j i) =
      (if t.val = 0 then (if i.val = 0 then ((p.x t.val b j + p.st j : ℝ) : EReal) else ⊥)
        else ((p.x t.val b j + p.a i j : ℝ) : EReal)) + (((if t.val = 2047 then 1 else 0 : ℝ) * p.en j : ℝ) : EReal) := by
  have h : e40 m c (ix4 t b j i) = Scalar.select (IntOp.cmpi .eq (BitVec.ofNat 32 t.val) 0#32)
      (Scalar.select (IntOp.cmpi .eq (BitVec.ofNat 32 i.val) 0#32)
        ((l0 m c (ix3 b t j) + l4 m c (ix1 j) : EReal))
        (Ideal.ofBits .f32 4286578688#32))
      ((l0 m c (ix3 b t j) + l3 m c (ix2 i j) : EReal))
      + (FloatOps.uitofp .f32 (IntOp.cmpi .eq (BitVec.ofNat 32 t.val)
          (IntOp.subi (Finset.fold IntOp.addi 0#32 (fun x => launchContents m c (Proc.devRef .tc main_arg2) (ix2 b x)) (Finset.univ : Finset (Fin 2048))) 1#32)) : Ideal .f32)
        * (l5 m c (ix1 j) : EReal) := by
    unfold e40
    simp only [entryContents, preI, afterL_cons, afterL_nil]
    after_reads_at
    rfl
  have hx : l0 m c (ix3 b t j) = ((p.x t.val b j : ℝ) : EReal) := g.x b t j
  have ha : l3 m c (ix2 i j) = ((p.a i j : ℝ) : EReal) := g.a i j
  have hs : l4 m c (ix1 j) = ((p.st j : ℝ) : EReal) := g.st j
  have he : l5 m c (ix1 j) = ((p.en j : ℝ) : EReal) := g.en j
  rw [h, mask_last g, hx, ha, hs, he, cmpi_eq_nat _ 0 (by omega) (by omega), cmpi_eq_nat _ 0 (by omega) (by omega),
    cmpi_eq_nat _ _ (by omega) (by omega), uitofp_bit, select_bit, select_bit, ofBits_ninf, EReal.coe_mul, EReal.coe_add, EReal.coe_add]

/-- A factor after the first time. -/
theorem e40_succ (g : GoodR m c p) (t : Fin 2048) (h : t.val ≠ 0) (b : Fin 8) (j i : Fin 32) :
    e40 m c (ix4 t b j i) = ((p.a i j + p.g t.val b j : ℝ) : EReal) := by
  rw [e40_read g, if_neg h, ← EReal.coe_add]
  congr 1; simp only [Inp.g, if_neg h]; split <;> ring

/-- The first factor. -/
theorem e40_zero (g : GoodR m c p) (b : Fin 8) (j i : Fin 32) :
    e40 m c (ix4 0 b j i) = if i.val = 0 then ((p.g 0 b j : ℝ) : EReal) else ⊥ := by
  rw [e40_read g, if_pos (by rfl)]
  split
  · rw [← EReal.coe_add]; congr 1; simp [Inp.g]
  · exact EReal.bot_add _

/-- The tags one step back: zero at the first time. -/
theorem e43_read (g : GoodR m c p) (t : Fin 2048) (b : Fin 8) :
    e43 m c (ix2 t b) = BitVec.ofNat 32 (if t.val = 0 then 0 else (p.tag (t.val - 1) b).val) := by
  by_cases h : t.val < 1
  · rw [if_pos (by omega)]
    unfold e43
    simp only [entryContents, preI, afterL_cons, afterL_nil]
    after_reads_at
    rw [dif_pos h]
  · rw [if_neg (by omega)]
    have hg : _ = _ := g.tag b ⟨t.val - 1, by omega⟩
    rw [← hg]
    unfold e43
    simp only [entryContents, preI, afterL_cons, afterL_nil]
    after_reads_at
    rw [dif_neg h]

/-- A count below the sign bit is left as it is where a negative one would be wrapped. -/
theorem wrap_id (n : ℕ) (hn : n < 2 ^ 31) (k : BitVec 32) :
    Scalar.select (IntOp.cmpi .slt (BitVec.ofNat 32 n) 0#32) (IntOp.addi (BitVec.ofNat 32 n) k) (BitVec.ofNat 32 n)
      = BitVec.ofNat 32 n := by
  have : (BitVec.ofNat 32 n).slt 0#32 = false := by
    rw [BitVec.slt, decide_eq_false_iff_not, BitVec.toInt_eq_toNat_of_lt] <;>
      simp only [BitVec.toNat_ofNat, BitVec.toInt_zero] <;> omega
  simp [IntOp.cmpi, this, Scalar.select]

theorem e70_read (t : Fin 2048) (b : Fin 8) : e70 m c (ix3 t b 0) = BitVec.ofNat 32 t.val := by
  rw [← wrap_id t.val (by omega) 2048#32]
  unfold e70
  simp only [entryContents, preI, afterL_cons, afterL_nil]
  after_reads_at

theorem e71_read (t : Fin 2048) (b : Fin 8) : e71 m c (ix3 t b 0) = BitVec.ofNat 32 b.val := by
  rw [← wrap_id b.val (by omega) 8#32]
  unfold e71
  simp only [entryContents, preI, afterL_cons, afterL_nil]
  after_reads_at

theorem e72_read (g : GoodR m c p) (t : Fin 2048) (b : Fin 8) :
    e72 m c (ix3 t b 0) = BitVec.ofNat 32 (p.tag t.val b).val := by
  rw [← wrap_id (p.tag t.val b).val (by omega) 32#32]
  have hg : _ = _ := g.tag b t
  rw [← hg]
  unfold e72
  simp only [entryContents, preI, afterL_cons, afterL_nil]
  after_reads_at

theorem e73_eq : e73 m c = broadcastInDim S2048x8x1 ![0, 1] bcast_S2048x8_S2048x8x1_0_1
    (select (cmpi .slt (e43 m c) (broadcastInDim S2048x8 ![] bcast_S_S2048x8 (constantI S_ 32 0#32)))
      (addi (e43 m c) (broadcastInDim S2048x8 ![] bcast_S_S2048x8 (constantI S_ 32 32#32))) (e43 m c)) := by
  unfold e73 e43
  simp only [entryContents, preI, afterL_cons, afterL_nil]
  after_reads_simp

theorem e73_read (g : GoodR m c p) (t : Fin 2048) (b : Fin 8) :
    e73 m c (ix3 t b 0) = BitVec.ofNat 32 (if t.val = 0 then 0 else (p.tag (t.val - 1) b).val) := by
  rw [← wrap_id (if t.val = 0 then 0 else (p.tag (t.val - 1) b).val) (by split <;> omega) 32#32, ← e43_read g, e73_eq]
  pointwise

theorem e74_eq : e74 m c = concatenate S2048x8x4 2
    [⟨S2048x8x1, e70 m c⟩, ⟨S2048x8x1, e71 m c⟩, ⟨S2048x8x1, e72 m c⟩, ⟨S2048x8x1, e73 m c⟩]
    concatenates_S2048x8x1_S2048x8x1_S2048x8x1_S2048x8x1_S2048x8x4_d2 := by
  unfold e74 e70 e71 e72 e73
  simp only [entryContents, preI, afterL_cons, afterL_nil]
  generalize after hostOps0_3 _ = W
  have h0 : upto hostOps0_4 W 61 (Proc.tc.devRef main_v70) = after hostOps0_4 W (Proc.tc.devRef main_v70) := by after_reads_simp
  have h1 : upto hostOps0_4 W 61 (Proc.tc.devRef main_v71) = after hostOps0_4 W (Proc.tc.devRef main_v71) := by after_reads_simp
  have h2 : upto hostOps0_4 W 61 (Proc.tc.devRef main_v72) = after hostOps0_4 W (Proc.tc.devRef main_v72) := by after_reads_simp
  have h3 : upto hostOps0_4 W 61 (Proc.tc.devRef main_v73) = after hostOps0_4 W (Proc.tc.devRef main_v73) := by after_reads_simp
  rw [← h0, ← h1, ← h2, ← h3]
  after_reads_simp
  rfl

theorem e74_read (t : Fin 2048) (b : Fin 8) : e74 m c (ix3 t b 0) = e70 m c (ix3 t b 0) ∧ e74 m c (ix3 t b 1) = e71 m c (ix3 t b 0)
    ∧ e74 m c (ix3 t b 2) = e72 m c (ix3 t b 0) ∧ e74 m c (ix3 t b 3) = e73 m c (ix3 t b 0) := by
  rw [e74_eq]
  refine ⟨?_, ?_, ?_, ?_⟩ <;> pointwise

/-- The score's gather at coordinates that are in range. -/
theorem gather_at (x : FVec Ideal S2048x8x32x32 .f32) (idx : IVec S2048x8x4 32) (t : Fin 2048) (b : Fin 8)
    (q : Fin 2048) (r : Fin 8) (j i : Fin 32)
    (h0 : idx (ix3 t b 0) = BitVec.ofNat 32 q.val) (h1 : idx (ix3 t b 1) = BitVec.ofNat 32 r.val)
    (h2 : idx (ix3 t b 2) = BitVec.ofNat 32 j.val) (h3 : idx (ix3 t b 3) = BitVec.ofNat 32 i.val) :
    Host.gather gather_S2048x8x32x32_S2048x8x4_S2048x8_n_0123_n_n_0123_2_1111 x idx (ix2 t b) = x (ix4 q r j i) := by
  have hv : ∀ n k, n < k → k < 2 ^ 31 → min (BitVec.ofNat 32 n).toInt.toNat (k - 1) = n := by
    intro n k h h'
    rw [BitVec.toInt_eq_toNat_of_lt] <;> simp only [BitVec.toNat_ofNat, Int.toNat_natCast] <;> omega
  unfold Host.gather
  congr 1
  have key : ∀ (a : Fin 4), ((gather_S2048x8x32x32_S2048x8x4_S2048x8_n_0123_n_n_0123_2_1111).start (ix2 t b) idx a
      + (gather_S2048x8x32x32_S2048x8x4_S2048x8_n_0123_n_n_0123_2_1111).batchCoord (ix2 t b) a
      + (gather_S2048x8x32x32_S2048x8x4_S2048x8_n_0123_n_n_0123_2_1111).offCoord (ix2 t b) a)
      = min (idx (ix3 t b a)).toInt.toNat (S2048x8x32x32.size a - 1) := by
    intro a
    have hm : a ∈ (gather_S2048x8x32x32_S2048x8x4_S2048x8_n_0123_n_n_0123_2_1111).startIndexMap := by
      revert a; decide
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos hm]
    have hsi : (gather_S2048x8x32x32_S2048x8x4_S2048x8_n_0123_n_n_0123_2_1111).siIdx (ix2 t b)
        ⟨List.idxOf a (gather_S2048x8x32x32_S2048x8x4_S2048x8_n_0123_n_n_0123_2_1111).startIndexMap,
          List.idxOf_lt_length_iff.2 hm⟩ = ix3 t b a := by
      funext d; refine Fin.ext ?_
      match d with
      | ⟨0, _⟩ => rfl
      | ⟨1, _⟩ => rfl
      | ⟨2, _⟩ => match a with
        | ⟨0, _⟩ => rfl
        | ⟨1, _⟩ => rfl
        | ⟨2, _⟩ => rfl
        | ⟨3, _⟩ => rfl
    rw [hsi]
    match a with
    | ⟨0, _⟩ => rfl
    | ⟨1, _⟩ => rfl
    | ⟨2, _⟩ => rfl
    | ⟨3, _⟩ => rfl
  funext a
  refine Fin.ext ((key a).trans ?_)
  match a with
  | ⟨0, _⟩ => exact (congrArg (fun w => min (BitVec.toInt w).toNat 2047) h0).trans (hv q.val 2048 q.isLt (by omega))
  | ⟨1, _⟩ => exact (congrArg (fun w => min (BitVec.toInt w).toNat 7) h1).trans (hv r.val 8 r.isLt (by omega))
  | ⟨2, _⟩ => exact (congrArg (fun w => min (BitVec.toInt w).toNat 31) h2).trans (hv j.val 32 j.isLt (by omega))
  | ⟨3, _⟩ => exact (congrArg (fun w => min (BitVec.toInt w).toNat 31) h3).trans (hv i.val 32 i.isLt (by omega))

theorem e75_eq : e75 m c = Host.gather gather_S2048x8x32x32_S2048x8x4_S2048x8_n_0123_n_n_0123_2_1111 (e40 m c) (e74 m c) := by
  unfold e75 e40 e74
  simp only [entryContents, preI, afterL_cons, afterL_nil]
  after_reads_simp

/-- The score of a time and batch entry. -/
theorem e75_read (g : GoodR m c p) (t : Fin 2048) (b : Fin 8) : e75 m c (ix2 t b) = ((p.sc t.val b : ℝ) : EReal) := by
  obtain ⟨k0, k1, k2, k3⟩ := e74_read (m := m) (c := c) t b
  rw [e75_eq, gather_at _ _ t b t b (p.tag t.val b) (if t.val = 0 then 0 else p.tag (t.val - 1) b) (k0.trans (e70_read t b))
    (k1.trans (e71_read t b)) (k2.trans (e72_read g t b)) ((k3.trans (e73_read g t b)).trans (by split <;> rfl))]
  by_cases h : t.val = 0
  · obtain rfl : t = 0 := Fin.ext h
    rw [e40_zero g, if_pos (by simp)]; simp [Inp.sc]
  · rw [e40_succ g t h, if_neg h, EReal.coe_eq_coe_iff]; simp only [Inp.sc, if_neg h]; ring

end Cert.Proof.Crf
end
-- ==== Proof.Crf.Scan.lean ====
module
public import proofs.«01_k».proof.Proof.Crf.Entry
public import proofs.«01_k».proof.Proof.Crf.Denom
public import Idealize.ShloMosaic.Lib.DynamicIndex
@[expose] public section

/-! The reference's scan: the running score and the logarithms of the forward sums. -/

noncomputable section
namespace Cert.Proof.Crf
open Cert.ReferenceIdeal Cert.ReferenceIdeal.Gen Cert.ReferenceIdeal.Value
open Idealize.ShloMosaic Idealize.ShloMosaic.TcCoe Idealize.SL.Sem
open Idealize.ShloMosaic.StableHlo
open scoped BigOperators

/-- Over real numbers the shifted log-sum-exp is the logarithm of the sum of exponentials. -/
theorem lse_coe (f : Fin 32 → ℝ) :
    (Finset.univ : Finset (Fin 32)).fold max (Ideal.ofBits .f32 4286578688#32 : EReal) (fun x => ((f x : ℝ) : EReal))
      + Ideal.log (∑ x, Ideal.exp (((f x : ℝ) : EReal)
          - (Finset.univ : Finset (Fin 32)).fold max (Ideal.ofBits .f32 4286578688#32 : EReal) (fun x => ((f x : ℝ) : EReal))))
      = ((Real.log (∑ x, Real.exp (f x)) : ℝ) : EReal) := by
  rw [ofBits_ninf, mx_coe]
  simp only [← EReal.coe_sub, Ideal.exp_coe, ← coe_sum]
  rw [log_pos_coe (Inp.sum_pos' fun j => Real.exp_pos _), ← EReal.coe_add]
  congr 1
  simp only [Real.exp_sub, ← Finset.sum_div]
  rw [Real.log_div (Inp.sum_pos' fun j => Real.exp_pos _).ne' (Real.exp_pos _).ne', Real.log_exp]
  ring

/-- The shifted log-sum-exp of one real number among entries at minus infinity is that number. -/
theorem lse_first (r : ℝ) (f : Fin 32 → EReal) (hf : ∀ i, f i = if i.val = 0 then ((r : ℝ) : EReal) else ⊥) :
    (Finset.univ : Finset (Fin 32)).fold max (Ideal.ofBits .f32 4286578688#32 : EReal) f
      + Ideal.log (∑ x, Ideal.exp (f x
          - (Finset.univ : Finset (Fin 32)).fold max (Ideal.ofBits .f32 4286578688#32 : EReal) f))
      = ((r : ℝ) : EReal) := by
  have hM : (Finset.univ : Finset (Fin 32)).fold max (Ideal.ofBits .f32 4286578688#32 : EReal) f = ((r : ℝ) : EReal) := by
    rw [ofBits_ninf]
    apply le_antisymm
    · refine Finset.fold_max_le _ |>.2 ⟨bot_le, fun i _ => ?_⟩
      rw [hf]; split
      · exact le_rfl
      · exact bot_le
    · exact Finset.le_fold_max _ |>.2 (Or.inr ⟨0, Finset.mem_univ _, by rw [hf]; simp⟩)
  rw [hM, Finset.sum_eq_single (0 : Fin 32)]
  · rw [hf, if_pos (by simp), ← EReal.coe_sub, sub_self, Ideal.exp_coe, Real.exp_zero, log_pos_coe one_pos, Real.log_one,
      EReal.coe_zero, add_zero]
  · intro i _ hi
    rw [hf, if_neg (fun h : i.val = 0 => hi (Fin.ext h)), sub_eq_add_neg, EReal.bot_add]
    rfl
  · intro h; exact absurd (Finset.mem_univ _) h

/-- The reference's log-sum-exp over the previous state. -/
def lse3 (X : FVec Ideal S8x32x32 .f32) : FVec Ideal S8x32 .f32 :=
  addf (shapeCast S8x32 (broadcastInDim S8x32x1 ![0, 1] bcast_S8x32_S8x32x1_0_1 (Host.reduce FloatOps.maximumf X (constant S_ .f32 0xFF800000#32) reducesTo_S8x32x32_S8x32_d2 h_S_)) shapeCasts_S8x32x1_S8x32)
    (Host.log (Host.reduceAdd (Host.exp (subf X (broadcastInDim S8x32x32 ![0, 1, 2] bcast_S8x32x1_S8x32x32_0_1_2 (broadcastInDim S8x32x1 ![0, 1] bcast_S8x32_S8x32x1_0_1 (Host.reduce FloatOps.maximumf X (constant S_ .f32 0xFF800000#32) reducesTo_S8x32x32_S8x32_d2 h_S_))))) (constant S_ .f32 0x00000000#32) reducesTo_S8x32x32_S8x32_d2 h_S_))

theorem lse3_at (X : FVec Ideal S8x32x32 .f32) (b : Fin 8) (j : Fin 32) : lse3 X (ix2 b j)
    = (Finset.univ : Finset (Fin 32)).fold max (Ideal.ofBits .f32 4286578688#32 : EReal) (fun x => X (ix3 b j x))
      + Ideal.log (∑ x, Ideal.exp ((X (ix3 b j x) : EReal)
          - (Finset.univ : Finset (Fin 32)).fold max (Ideal.ofBits .f32 4286578688#32 : EReal) (fun x => X (ix3 b j x)))) := by
  unfold lse3
  pointwise

/-- A row of the scanned arrays, at the counter. -/
def row2 (X : FVec Ideal S2047x8 .f32) (n : IVec S_ 32) : FVec Ideal S8 .f32 :=
  shapeCast S8 (Host.dynamicSlice S1x8 X (fun k => (((![n, constantI S_ 32 0#32] : Fin 2 → IVec S_ 32)) k (Shape.Idx.first h_S_)).toInt) sliceFits_S2047x8_S1x8) shapeCasts_S1x8_S8

/-- A slice of the scanned factors, at the counter. -/
def row4 (X : FVec Ideal S2047x8x32x32 .f32) (n : IVec S_ 32) : FVec Ideal S8x32x32 .f32 :=
  shapeCast S8x32x32 (Host.dynamicSlice S1x8x32x32 X (fun k => (((![n, constantI S_ 32 0#32, constantI S_ 32 0#32, constantI S_ 32 0#32] : Fin 4 → IVec S_ 32)) k (Shape.Idx.first h_S_)).toInt) sliceFits_S2047x8x32x32_S1x8x32x32) shapeCasts_S1x8x32x32_S8x32x32

theorem toInt_nat (k : ℕ) (h : k < 2 ^ 31) : (BitVec.ofNat 32 k).toInt = (k : ℤ) := by
  rw [BitVec.toInt_eq_toNat_of_lt] <;> simp only [BitVec.toNat_ofNat] <;> omega

theorem row2_at (X : FVec Ideal S2047x8 .f32) (k : Fin 2047) (b : Fin 8) :
    row2 X (fun _ => BitVec.ofNat 32 k.val) (ix1 b) = X (ix2 k b) := by
  have hs : S2047x8.Slices ![k.val, 0] S1x8 := ⟨rfl, fun a => match a with
    | ⟨0, _⟩ => by show k.val + 1 ≤ 2047; omega
    | ⟨1, _⟩ => by show 0 + 8 ≤ 8; omega⟩
  unfold row2
  rw [Host.dynamicSlice_eq_extractStridedSlice S1x8 X _ ![k.val, 0] _ hs (fun a => match a with
    | ⟨0, _⟩ => toInt_nat k.val (by omega)
    | ⟨1, _⟩ => rfl)]
  pointwise

theorem row4_at (X : FVec Ideal S2047x8x32x32 .f32) (k : Fin 2047) (b : Fin 8) (j i : Fin 32) :
    row4 X (fun _ => BitVec.ofNat 32 k.val) (ix3 b j i) = X (ix4 k b j i) := by
  have hs : S2047x8x32x32.Slices ![k.val, 0, 0, 0] S1x8x32x32 := ⟨rfl, fun a => match a with
    | ⟨0, _⟩ => by show k.val + 1 ≤ 2047; omega
    | ⟨1, _⟩ => by show 0 + 8 ≤ 8; omega
    | ⟨2, _⟩ => by show 0 + 32 ≤ 32; omega
    | ⟨3, _⟩ => by show 0 + 32 ≤ 32; omega⟩
  unfold row4
  rw [Host.dynamicSlice_eq_extractStridedSlice S1x8x32x32 X _ ![k.val, 0, 0, 0] _ hs (fun a => match a with
    | ⟨0, _⟩ => toInt_nat k.val (by omega)
    | ⟨1, _⟩ => rfl
    | ⟨2, _⟩ => rfl
    | ⟨3, _⟩ => rfl)]
  pointwise

/-- The states' scores with a factor added, by batch, next and previous state. -/
def plus3 (L : FVec Ideal S8x32 .f32) (Y : FVec Ideal S8x32x32 .f32) : FVec Ideal S8x32x32 .f32 :=
  addf (broadcastInDim S8x32x32 ![0, 1, 2] bcast_S8x1x32_S8x32x32_0_1_2 (broadcastInDim S8x1x32 ![0, 2] bcast_S8x32_S8x1x32_0_2 L)) Y

theorem plus3_at (L : FVec Ideal S8x32 .f32) (Y : FVec Ideal S8x32x32 .f32) (b : Fin 8) (j i : Fin 32) :
    plus3 L Y (ix3 b j i) = (L (ix2 b i) + Y (ix3 b j i) : EReal) := by
  unfold plus3; pointwise

/-- New states where the mask is one, the old ones where it is zero. -/
def mix (w : FVec Ideal S8 .f32) (N L : FVec Ideal S8x32 .f32) : FVec Ideal S8x32 .f32 :=
  addf (mulf (broadcastInDim S8x32 ![0, 1] bcast_S8x1_S8x32_0_1 (broadcastInDim S8x1 ![0] bcast_S8_S8x1_0 w)) N)
    (mulf (broadcastInDim S8x32 ![0, 1] bcast_S8x1_S8x32_0_1 (subf (broadcastInDim S8x1 ![] bcast_S_S8x1 (constant S_ .f32 0x3F800000#32)) (broadcastInDim S8x1 ![0] bcast_S8_S8x1_0 w))) L)

theorem mix_at (w : FVec Ideal S8 .f32) (N L : FVec Ideal S8x32 .f32) (b : Fin 8) (j : Fin 32) (hw : w (ix1 b) = ((1 : ℝ) : EReal))
    (r : ℝ) (hL : L (ix2 b j) = ((r : ℝ) : EReal)) : mix w N L (ix2 b j) = N (ix2 b j) := by
  have h : mix w N L (ix2 b j) = (w (ix1 b) * N (ix2 b j) + (Ideal.ofBits .f32 1065353216#32 - w (ix1 b)) * L (ix2 b j) : EReal) := by
    unfold mix; pointwise
  rw [h, hw, hL, ofBits_one, ← EReal.coe_sub, ← EReal.coe_mul, sub_self, zero_mul, EReal.coe_zero, add_zero, EReal.coe_one, one_mul]

/-- The running score after one more time. -/
def addRow (A w s : FVec Ideal S8 .f32) : FVec Ideal S8 .f32 := addf A (mulf w s)

theorem addRow_at (A w s : FVec Ideal S8 .f32) (b : Fin 8) : addRow A w s (ix1 b) = (A (ix1 b) + w (ix1 b) * s (ix1 b) : EReal) := by
  unfold addRow; pointwise

section Step
variable (V : Valuation τ sig (Elt Ideal))

def v0 : FVec Ideal S2047x8x32x32 .f32 := V (Proc.devRef .tc main_v92_0)
def v1 : FVec Ideal S2047x8 .f32 := V (Proc.devRef .tc main_v92_1)
def v2 : FVec Ideal S2047x8 .f32 := V (Proc.devRef .tc main_v92_2)
def v3 : IVec S_ 32 := V (Proc.devRef .tc main_v92_3)
def v4 : FVec Ideal S8 .f32 := V (Proc.devRef .tc main_v92_4)
def v5 : FVec Ideal S8x32 .f32 := V (Proc.devRef .tc main_v92_5)

theorem step0 : v0 (STEP V) = v0 V := STEP_main_v92_0 V
theorem step1 : v1 (STEP V) = v1 V := STEP_main_v92_1 V
theorem step2 : v2 (STEP V) = v2 V := STEP_main_v92_2 V
theorem step3 : v3 (STEP V) = addi (v3 V) (constantI S_ 32 1#32) := STEP_main_v92_3 V
theorem step4 : v4 (STEP V) = addRow (v4 V) (row2 (v2 V) (v3 V)) (row2 (v1 V) (v3 V)) := STEP_main_v92_4 V
theorem step5 : v5 (STEP V) = mix (row2 (v2 V) (v3 V)) (lse3 (plus3 (v5 V) (row4 (v0 V) (v3 V)))) (v5 V) := STEP_main_v92_5 V

end Step

/-- What the scan holds before its trip `k`: the data, the counter, the scores up to time `k` and the logarithms of the
    forward sums at time `k`. -/
structure ScanI (p : Inp) (V : Valuation τ sig (Elt Ideal)) (k : ℕ) : Prop where
  d0 : ∀ (q : Fin 2047) b j i, v0 V (ix4 q b j i) = ((p.a i j + p.g (q.val + 1) b j : ℝ) : EReal)
  d1 : ∀ (q : Fin 2047) b, v1 V (ix2 q b) = ((p.sc (q.val + 1) b : ℝ) : EReal)
  d2 : ∀ (q : Fin 2047) b, v2 V (ix2 q b) = ((1 : ℝ) : EReal)
  d3 : v3 V = fun _ => BitVec.ofNat 32 k
  d4 : ∀ b, v4 V (ix1 b) = ((∑ t ∈ Finset.range (k + 1), p.sc t b : ℝ) : EReal)
  d5 : ∀ b j, v5 V (ix2 b j) = ((Real.log (p.al b k j) : ℝ) : EReal)

/-- One trip of the scan. -/
theorem scan_step {p : Inp} {V : Valuation τ sig (Elt Ideal)} {k : ℕ} (hk : k < 2047) (I : ScanI p V k) :
    ScanI p (STEP V) (k + 1) := by
  have hw : ∀ b, row2 (v2 V) (v3 V) (ix1 b) = ((1 : ℝ) : EReal) := fun b => by
    rw [I.d3]; exact (row2_at _ ⟨k, hk⟩ b).trans (I.d2 _ b)
  refine ⟨?_, ?_, ?_, ?_, ?_, ?_⟩
  · rw [step0]; exact I.d0
  · rw [step1]; exact I.d1
  · rw [step2]; exact I.d2
  · rw [step3, I.d3]; funext x
    exact (BitVec.ofNat_add k 1).symm
  · intro b
    have hs : row2 (v1 V) (v3 V) (ix1 b) = ((p.sc (k + 1) b : ℝ) : EReal) := by
      rw [I.d3]; exact (row2_at _ ⟨k, hk⟩ b).trans (I.d1 _ b)
    rw [step4, addRow_at, hw, hs, I.d4, EReal.coe_one, one_mul, ← EReal.coe_add, Finset.sum_range_succ _ (k + 1)]
  · intro b j
    rw [step5, mix_at _ _ _ b j (hw b) _ (I.d5 b j), lse3_at]
    have hX : ∀ i, plus3 (v5 V) (row4 (v0 V) (v3 V)) (ix3 b j i)
        = ((Real.log (p.al b k i) + (p.a i j + p.g (k + 1) b j) : ℝ) : EReal) := by
      intro i
      rw [plus3_at, I.d5, I.d3, EReal.coe_add]
      exact congrArg _ ((row4_at _ ⟨k, hk⟩ b j i).trans (I.d0 _ b j i))
    simp only [hX]
    rw [lse_coe]
    congr 2
    simp only [Inp.al, Finset.sum_mul]
    refine Finset.sum_congr rfl fun i _ => ?_
    rw [Real.exp_add, Real.exp_add, Real.exp_log (p.al_pos b k i), mul_assoc]

theorem scan_inv {p : Inp} {V : Valuation τ sig (Elt Ideal)} (I : ScanI p V 0) : ∀ k, k ≤ 2047 → ScanI p (STEP^[k] V) k
  | 0, _ => I
  | k + 1, h => by rw [Function.iterate_succ_apply']; exact scan_step (by omega) (scan_inv I k (by omega))

section Entry
variable {m : (ℓ : Loc nD τ sig) → Buf (Elt Ideal) ℓ} {c : Dev nD} {p : Inp}

theorem entry0 : v0 (entryContents preI m c) = extractStridedSlice S2047x8x32x32 ![1, 0, 0, 0] (e40 m c) slices_S2048x8x32x32_S2047x8x32x32_1_0_0_0 := by
  unfold v0 e40
  simp only [entryContents, preI, afterL_cons, afterL_nil]
  generalize after hostOps0_3 _ = W
  after_reads_simp
  rfl

theorem entry1 : v1 (entryContents preI m c) = extractStridedSlice S2047x8 ![1, 0] (e75 m c) slices_S2048x8_S2047x8_1_0 := by
  unfold v1 e75
  simp only [entryContents, preI, afterL_cons, afterL_nil]
  generalize after hostOps0_3 _ = W
  after_reads_simp
  rfl

theorem entry2 : v2 (entryContents preI m c) = extractStridedSlice S2047x8 ![1, 0]
    (sitofp .f32 (transpose S2048x8 [1, 0] (launchContents m c (Proc.devRef .tc main_arg2) : IVec S8x2048 32) transposes_S8x2048_S2048x8_1_0))
    slices_S2048x8_S2047x8_1_0 := by
  unfold v2
  simp only [entryContents, preI, afterL_cons, afterL_nil]
  after_reads_simp
  rfl

theorem entry4 : v4 (entryContents preI m c) = shapeCast S8 (extractStridedSlice S1x8 ![0, 0] (e75 m c) slices_S2048x8_S1x8_0_0) shapeCasts_S1x8_S8 := by
  unfold v4 e75
  simp only [entryContents, preI, afterL_cons, afterL_nil]
  generalize after hostOps0_3 _ = W
  after_reads_simp
  rfl

theorem entry5 : v5 (entryContents preI m c) = lse3 (shapeCast S8x32x32 (extractStridedSlice S1x8x32x32 ![0, 0, 0, 0] (e40 m c) slices_S2048x8x32x32_S1x8x32x32_0_0_0_0) shapeCasts_S1x8x32x32_S8x32x32) := by
  unfold v5 e40 lse3
  simp only [entryContents, preI, afterL_cons, afterL_nil]
  generalize after hostOps0_3 _ = W
  after_reads_simp
  rfl

/-- What the scan begins with. -/
theorem scan_zero (g : GoodR m c p) : ScanI p (entryContents preI m c) 0 := by
  refine ⟨?_, ?_, ?_, ctr_entry m c, ?_, ?_⟩
  · intro q b j i
    rw [← e40_succ g ⟨q.val + 1, by omega⟩ (by simp) b j i, entry0]
    pointwise
    exact congrArg (fun q => e40 m c (ix4 q b j i)) (Fin.ext (Nat.add_comm _ _))
  · intro q b
    rw [← e75_read g ⟨q.val + 1, by omega⟩ b, entry1]
    pointwise
    exact congrArg (fun q => e75 m c (ix2 q b)) (Fin.ext (Nat.add_comm _ _))
  · intro q b
    rw [entry2]
    have h : ∀ X : IVec S8x2048 32, (∀ t, X (ix2 b t) = 1#32) → extractStridedSlice S2047x8 ![1, 0]
        (sitofp (F := Ideal) .f32 (transpose S2048x8 [1, 0] X transposes_S8x2048_S2048x8_1_0)) slices_S2048x8_S2047x8_1_0 (ix2 q b)
        = ((1 : ℝ) : EReal) := by
      intro X hX
      pointwise
      rw [hX]
      exact sitofp_nat 1 (by omega) |>.trans (by norm_num)
    exact h _ fun t => g.mask b t
  · intro b
    have h : _ = ((p.sc 0 b : ℝ) : EReal) := e75_read g 0 b
    rw [entry4, Finset.sum_range_one, ← h]
    pointwise
  · intro b j
    rw [entry5, lse3_at, lse_first (p.g 0 b j)]
    · simp only [Inp.al, Real.log_exp]
    · intro i
      rw [← e40_zero g b j i]
      pointwise

end Entry

/-- The reference's last lines, over the running score and the states' scores. -/
def tail (A : FVec Ideal S8 .f32) (L : FVec Ideal S8x32 .f32) : FVec Ideal S1x1 .f32 :=
  shapeCast _ (Host.reduceAdd (subf (broadcastInDim S8 ![] bcast_S_S8 (Host.reduceAdd A (constant S_ .f32 0x00000000#32) reducesTo_S8_S_d0 h_S_)) (addf (shapeCast _ (broadcastInDim S8x1 ![0] bcast_S8_S8x1_0 (Host.reduce FloatOps.maximumf L (constant S_ .f32 0xFF800000#32) reducesTo_S8x32_S8_d1 h_S_)) shapeCasts_S8x1_S8) (Host.log (Host.reduceAdd (Host.exp (subf L (broadcastInDim S8x32 ![0, 1] bcast_S8x1_S8x32_0_1 (broadcastInDim S8x1 ![0] bcast_S8_S8x1_0 (Host.reduce FloatOps.maximumf L (constant S_ .f32 0xFF800000#32) reducesTo_S8x32_S8_d1 h_S_))))) (constant S_ .f32 0x00000000#32) reducesTo_S8x32_S8_d1 h_S_)))) (constant S_ .f32 0x00000000#32) reducesTo_S8_S_d0 h_S_) shapeCasts_S_S1x1

theorem tail_at (A : FVec Ideal S8 .f32) (L : FVec Ideal S8x32 .f32) (x y : Fin 1) : tail A L (ix2 x y)
    = (∑ b, ((∑ k, (A (ix1 k) : EReal)) - ((Finset.univ : Finset (Fin 32)).fold max (Ideal.ofBits .f32 4286578688#32 : EReal) (fun x => L (ix2 b x))
      + Ideal.log (∑ x, Ideal.exp ((L (ix2 b x) : EReal)
          - (Finset.univ : Finset (Fin 32)).fold max (Ideal.ofBits .f32 4286578688#32 : EReal) (fun x => L (ix2 b x)))))) : EReal) := by
  unfold tail
  pointwise

/-- The reference's last lines: the score less the log-partition, summed. -/
theorem out_read {p : Inp} {V : Valuation τ sig (Elt Ideal)} (I : ScanI p V 2047) :
    out_main_v106 V = fun _ => ((p.out : ℝ) : EReal) := by
  have h0 : out_main_v106 V = tail (v4 V) (v5 V) := rfl
  rw [h0]
  funext i
  obtain ⟨x, y, rfl⟩ : ∃ x y : Fin 1, i = ix2 x y := ⟨i 0, i 1, by funext a; match a with | ⟨0, _⟩ => rfl | ⟨1, _⟩ => rfl⟩
  rw [tail_at]
  simp only [I.d4, I.d5]
  simp only [lse_coe, ← coe_sum, ← EReal.coe_sub]
  congr 1
  simp only [Real.exp_log (p.al_pos _ _ _)]
  rw [Finset.sum_sub_distrib]
  simp only [Inp.out, Inp.num, Inp.den]
  rw [Finset.sum_comm (s := Finset.range 2048)]
  simp

end Cert.Proof.Crf
end
-- ==== Proof.lean ====
/- The certificate for the linear-chain conditional random field kernel: the kernel, its idealization and the
   reference run to the end and leave their arguments and counters as they found them, the idealization is the
   kernel's own text, and at the ideal values the kernel and the reference return the same number. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_drawn
public import proofs.«01_k».proof.Proof.Crf.KernelRun
public import proofs.«01_k».proof.Proof.Crf.Scan
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs to the end and keeps its arguments. -/
theorem frameKernel : quiescent_Kernel (hKernel := Cert.Kernel.Gen.facts) := by
  intro m ρ _
  exact Cert.Kernel.Gen.frame m ρ

/-- The idealized kernel runs to the end and keeps its arguments. -/
theorem frameKernelIdeal : quiescent_KernelIdeal (hKernelIdeal := Cert.KernelIdeal.Gen.facts) := by
  intro m ρ _
  exact Cert.KernelIdeal.Gen.frame m ρ

/-- The reference runs to the end and keeps its arguments. -/
theorem frameReferenceIdeal : quiescent_ReferenceIdeal (hReferenceIdeal := Cert.ReferenceIdeal.Gen.facts) := by
  intro m ρ _
  exact (θ_run _ _ _).mono (fun r h => ⟨fun c => (h c).2, Idealize.ShloMosaic.sem_eq_zero_of_no_sems (by decide) r.2⟩) (Cert.ReferenceIdeal.Value.run m ρ)

/-- At the ideal values the kernel and the reference both return the problem's number: eight times the paths' scores less
    the log-partitions. -/
theorem algebraicKernelReference : algebraic_KernelIdeal_ReferenceIdeal_pre_drawn (hKernelIdeal := Cert.KernelIdeal.Gen.facts)
    (hReferenceIdeal := Cert.ReferenceIdeal.Gen.facts) (hPre_drawn := Cert.Pre_drawn.Gen.facts) := by
  intro m g m' g' hpre harg
  have good : ∀ c : Dev Cert.KernelIdeal.nD, ∃ p : Crf.Inp, Crf.GoodK m c p := fun c => ⟨_, Crf.good_of_pre _ _ _ _ _ _ (hpre c)⟩
  choose p hp using good
  have hp' : ∀ c, Crf.GoodR m' c (p c) := fun c => by
    obtain ⟨h0, h1, h2, h3, h4, h5⟩ := harg c
    have h := hp c
    unfold Crf.GoodK at h
    rw [← h0, ← h1, ← h2, ← h3, ← h4, ← h5] at h
    exact h
  refine ⟨fun c _ => (((p c).out : ℝ) : EReal), ?_, ?_⟩
  · exact (θ_run _ _ _).mono (fun r h c => ⟨(h c).1.trans (Crf.final_eq (hp c)), (h c).2⟩) (Cert.KernelIdeal.Value.run_blocks m g)
  · exact (θ_run _ _ _).mono (fun r h c => ⟨(h c).1.trans (Crf.out_read (Crf.scan_inv (Crf.scan_zero (hp' c)) 2047 le_rfl)), (h c).2⟩)
      (Cert.ReferenceIdeal.Value.run m' g')

theorem claim : Cert.Claim :=
  ⟨Cert.Kernel.Gen.facts, Cert.KernelIdeal.Gen.facts, Cert.ReferenceIdeal.Gen.facts, Cert.Pre_drawn.Gen.facts,
    frameKernel, frameKernelIdeal, fun m ρ _ => Cert.KernelIdeal.Gen.frame m ρ, frameReferenceIdeal,
    fun m ρ _ => (θ_run _ _ _).mono (fun r h => ⟨fun c => (h c).2, Idealize.ShloMosaic.sem_eq_zero_of_no_sems (by decide) r.2⟩)
      (Cert.ReferenceIdeal.Value.run m ρ),
    trivial, algebraicKernelReference⟩

end Cert.Proof

end
